-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S4 : Shape := ⟨1, ![4]⟩
abbrev S256x512 : Shape := ⟨2, ![256, 512]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .bf16⟩
  | .hbm, ⟨1, _⟩ => ⟨S4096x512, .bf16⟩
  | .local _ .vmem, ⟨0, _⟩ => ⟨S1024x512, .bf16⟩
  | .local _ .vmem, ⟨1, _⟩ => ⟨S4096x512, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v12 : Index := Scalar.indexCast v11
  let c0 : Index := 0#32
  ![v12.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v15 : BitVec 32 := Scalar.muli v8 c1024_i32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v16 : BitVec 32 := Scalar.addi v15 v11
  let v17 : Index := Scalar.indexCast v16
  let c0_3 : Index := 0#32
  ![v17.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v20 : BitVec 1 := Scalar.cmpi .ne v8 c0_i32
  let v21 : BitVec 32 := Scalar.extui v20
  let c0_i32_4 : BitVec 32 := 0#32
  let v22 : BitVec 1 := Scalar.cmpi .ne v21 c0_i32_4
  v22

def k0_dev1 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v140 : BitVec 32 := Scalar.muli v2 c8_i32_85
  let v141 : BitVec 32 := Scalar.addi c0_i32_86 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v142 : BitVec 32 := Scalar.muli v5 c4_i32_87
  let v143 : BitVec 32 := Scalar.addi v141 v142
  let c0_i32_84 : BitVec 32 := 0#32
  let c1_i32_88 : BitVec 32 := 1#32
  let v144 : BitVec 32 := Scalar.muli c0_i32_84 c1_i32_88
  let v145 : BitVec 32 := Scalar.addi v143 v144
  v145.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v23 : BitVec 1 := Scalar.cmpi .ne v8 c1_i32_5
  let v24 : BitVec 32 := Scalar.extui v23
  let c0_i32_6 : BitVec 32 := 0#32
  let v25 : BitVec 1 := Scalar.cmpi .ne v24 c0_i32_6
  v25

def k0_dev2 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v140 : BitVec 32 := Scalar.muli v2 c8_i32_85
  let v141 : BitVec 32 := Scalar.addi c0_i32_86 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v142 : BitVec 32 := Scalar.muli v5 c4_i32_87
  let v143 : BitVec 32 := Scalar.addi v141 v142
  let c1_i32_84 : BitVec 32 := 1#32
  let c1_i32_88 : BitVec 32 := 1#32
  let v144 : BitVec 32 := Scalar.muli c1_i32_84 c1_i32_88
  let v145 : BitVec 32 := Scalar.addi v143 v144
  v145.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let v26 : BitVec 1 := Scalar.cmpi .ne v8 c2_i32_7
  let v27 : BitVec 32 := Scalar.extui v26
  let c0_i32_8 : BitVec 32 := 0#32
  let v28 : BitVec 1 := Scalar.cmpi .ne v27 c0_i32_8
  v28

def k0_dev3 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v140 : BitVec 32 := Scalar.muli v2 c8_i32_85
  let v141 : BitVec 32 := Scalar.addi c0_i32_86 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v142 : BitVec 32 := Scalar.muli v5 c4_i32_87
  let v143 : BitVec 32 := Scalar.addi v141 v142
  let c2_i32_84 : BitVec 32 := 2#32
  let c1_i32_88 : BitVec 32 := 1#32
  let v144 : BitVec 32 := Scalar.muli c2_i32_84 c1_i32_88
  let v145 : BitVec 32 := Scalar.addi v143 v144
  v145.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v29 : BitVec 1 := Scalar.cmpi .ne v8 c3_i32
  let v30 : BitVec 32 := Scalar.extui v29
  let c0_i32_9 : BitVec 32 := 0#32
  let v31 : BitVec 1 := Scalar.cmpi .ne v30 c0_i32_9
  v31

def k0_dev4 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v140 : BitVec 32 := Scalar.muli v2 c8_i32_85
  let v141 : BitVec 32 := Scalar.addi c0_i32_86 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v142 : BitVec 32 := Scalar.muli v5 c4_i32_87
  let v143 : BitVec 32 := Scalar.addi v141 v142
  let c3_i32_84 : BitVec 32 := 3#32
  let c1_i32_88 : BitVec 32 := 1#32
  let v144 : BitVec 32 := Scalar.muli c3_i32_84 c1_i32_88
  let v145 : BitVec 32 := Scalar.addi v143 v144
  v145.toNat
def k0_dev5 (d0 : Dev nD) : Nat :=
  let c0_i32_16 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_10 v2
  let c8_i32_15 : BitVec 32 := 8#32
  let v36 : BitVec 32 := Scalar.muli v32 c8_i32_15
  let v37 : BitVec 32 := Scalar.addi c0_i32_16 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v38 : BitVec 32 := Scalar.muli v5 c4_i32_17
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v40 : BitVec 32 := Scalar.muli v8 c1_i32_18
  let v41 : BitVec 32 := Scalar.addi v39 v40
  v41.toNat
def k0_dev6 (d0 : Dev nD) : Nat :=
  let c0_i32_21 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_20 : BitVec 32 := 8#32
  let v42 : BitVec 32 := Scalar.muli v2 c8_i32_20
  let v43 : BitVec 32 := Scalar.addi c0_i32_21 v42
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_11 v5
  let c4_i32_22 : BitVec 32 := 4#32
  let v44 : BitVec 32 := Scalar.muli v33 c4_i32_22
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v46 : BitVec 32 := Scalar.muli v8 c1_i32_23
  let v47 : BitVec 32 := Scalar.addi v45 v46
  v47.toNat
def k0_dev7 (d0 : Dev nD) : Nat :=
  let c0_i32_26 : BitVec 32 := 0#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_12 v2
  let c8_i32_25 : BitVec 32 := 8#32
  let v48 : BitVec 32 := Scalar.muli v34 c8_i32_25
  let v49 : BitVec 32 := Scalar.addi c0_i32_26 v48
  let c1_i32_13 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_13 v5
  let c4_i32_27 : BitVec 32 := 4#32
  let v50 : BitVec 32 := Scalar.muli v35 c4_i32_27
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v52 : BitVec 32 := Scalar.muli v8 c1_i32_28
  let v53 : BitVec 32 := Scalar.addi v51 v52
  v53.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_29 : BitVec 32 := 0#32
  let v54 : BitVec 1 := Scalar.cmpi .ne v8 c0_i32_29
  let v55 : BitVec 32 := Scalar.extui v54
  let c0_i32_30 : BitVec 32 := 0#32
  let v56 : BitVec 1 := Scalar.cmpi .ne v55 c0_i32_30
  v56

def k0_off3 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_90 : BitVec 32 := 0#32
  ![v141.toNat, 0]
def k0_dev8 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v142 : BitVec 32 := Scalar.muli v2 c8_i32_86
  let v143 : BitVec 32 := Scalar.addi c0_i32_87 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v144 : BitVec 32 := Scalar.muli v5 c4_i32_88
  let v145 : BitVec 32 := Scalar.addi v143 v144
  let c0_i32_85 : BitVec 32 := 0#32
  let c1_i32_89 : BitVec 32 := 1#32
  let v146 : BitVec 32 := Scalar.muli c0_i32_85 c1_i32_89
  let v147 : BitVec 32 := Scalar.addi v145 v146
  v147.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v57 : BitVec 1 := Scalar.cmpi .ne v8 c1_i32_31
  let v58 : BitVec 32 := Scalar.extui v57
  let c0_i32_32 : BitVec 32 := 0#32
  let v59 : BitVec 1 := Scalar.cmpi .ne v58 c0_i32_32
  v59

def k0_off5 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_90 : BitVec 32 := 0#32
  ![v141.toNat, 0]
def k0_dev9 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v142 : BitVec 32 := Scalar.muli v2 c8_i32_86
  let v143 : BitVec 32 := Scalar.addi c0_i32_87 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v144 : BitVec 32 := Scalar.muli v5 c4_i32_88
  let v145 : BitVec 32 := Scalar.addi v143 v144
  let c1_i32_85 : BitVec 32 := 1#32
  let c1_i32_89 : BitVec 32 := 1#32
  let v146 : BitVec 32 := Scalar.muli c1_i32_85 c1_i32_89
  let v147 : BitVec 32 := Scalar.addi v145 v146
  v147.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v60 : BitVec 1 := Scalar.cmpi .ne v8 c2_i32_33
  let v61 : BitVec 32 := Scalar.extui v60
  let c0_i32_34 : BitVec 32 := 0#32
  let v62 : BitVec 1 := Scalar.cmpi .ne v61 c0_i32_34
  v62

def k0_off7 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_90 : BitVec 32 := 0#32
  ![v141.toNat, 0]
def k0_dev10 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v142 : BitVec 32 := Scalar.muli v2 c8_i32_86
  let v143 : BitVec 32 := Scalar.addi c0_i32_87 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v144 : BitVec 32 := Scalar.muli v5 c4_i32_88
  let v145 : BitVec 32 := Scalar.addi v143 v144
  let c2_i32_85 : BitVec 32 := 2#32
  let c1_i32_89 : BitVec 32 := 1#32
  let v146 : BitVec 32 := Scalar.muli c2_i32_85 c1_i32_89
  let v147 : BitVec 32 := Scalar.addi v145 v146
  v147.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_35 : BitVec 32 := 3#32
  let v63 : BitVec 1 := Scalar.cmpi .ne v8 c3_i32_35
  let v64 : BitVec 32 := Scalar.extui v63
  let c0_i32_36 : BitVec 32 := 0#32
  let v65 : BitVec 1 := Scalar.cmpi .ne v64 c0_i32_36
  v65

def k0_off9 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_90 : BitVec 32 := 0#32
  ![v141.toNat, 0]
def k0_dev11 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v142 : BitVec 32 := Scalar.muli v2 c8_i32_86
  let v143 : BitVec 32 := Scalar.addi c0_i32_87 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v144 : BitVec 32 := Scalar.muli v5 c4_i32_88
  let v145 : BitVec 32 := Scalar.addi v143 v144
  let c3_i32_85 : BitVec 32 := 3#32
  let c1_i32_89 : BitVec 32 := 1#32
  let v146 : BitVec 32 := Scalar.muli c3_i32_85 c1_i32_89
  let v147 : BitVec 32 := Scalar.addi v145 v146
  v147.toNat
def k0_cond9 (d0 : Dev nD) : BitVec 1 :=
  let c2_i32_37 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.muli c2_i32_37 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.addi v66 v5
  let c0_i32_38 : BitVec 32 := 0#32
  let v68 : BitVec 1 := Scalar.cmpi .ne v67 c0_i32_38
  let v69 : BitVec 32 := Scalar.extui v68
  let c0_i32_39 : BitVec 32 := 0#32
  let v70 : BitVec 1 := Scalar.cmpi .ne v69 c0_i32_39
  v70

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_85 : BitVec 32 := 1024#32
  let v142 : BitVec 32 := Scalar.muli v8 c1024_i32_85
  let c0_i32_86 : BitVec 32 := 0#32
  let v143 : BitVec 32 := Scalar.addi v142 c0_i32_86
  let v144 : Index := Scalar.indexCast v143
  let c0_87 : Index := 0#32
  ![v144.toNat, 0]
def k0_cond10 (d0 : Dev nD) : BitVec 1 :=
  let c2_i32_37 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.muli c2_i32_37 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.addi v66 v5
  let c1_i32_40 : BitVec 32 := 1#32
  let v71 : BitVec 1 := Scalar.cmpi .ne v67 c1_i32_40
  let v72 : BitVec 32 := Scalar.extui v71
  let c0_i32_41 : BitVec 32 := 0#32
  let v73 : BitVec 1 := Scalar.cmpi .ne v72 c0_i32_41
  v73

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_84 : BitVec 32 := 1024#32
  let v142 : BitVec 32 := Scalar.muli v8 c1024_i32_84
  let c256_i32_85 : BitVec 32 := 256#32
  let v143 : BitVec 32 := Scalar.addi v142 c256_i32_85
  let v144 : Index := Scalar.indexCast v143
  let c0_86 : Index := 0#32
  ![v144.toNat, 0]
def k0_cond11 (d0 : Dev nD) : BitVec 1 :=
  let c2_i32_37 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.muli c2_i32_37 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.addi v66 v5
  let c2_i32_42 : BitVec 32 := 2#32
  let v74 : BitVec 1 := Scalar.cmpi .ne v67 c2_i32_42
  let v75 : BitVec 32 := Scalar.extui v74
  let c0_i32_43 : BitVec 32 := 0#32
  let v76 : BitVec 1 := Scalar.cmpi .ne v75 c0_i32_43
  v76

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_84 : BitVec 32 := 1024#32
  let v142 : BitVec 32 := Scalar.muli v8 c1024_i32_84
  let c512_i32 : BitVec 32 := 512#32
  let v143 : BitVec 32 := Scalar.addi v142 c512_i32
  let v144 : Index := Scalar.indexCast v143
  let c0_85 : Index := 0#32
  ![v144.toNat, 0]
def k0_cond12 (d0 : Dev nD) : BitVec 1 :=
  let c2_i32_37 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.muli c2_i32_37 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.addi v66 v5
  let c3_i32_44 : BitVec 32 := 3#32
  let v77 : BitVec 1 := Scalar.cmpi .ne v67 c3_i32_44
  let v78 : BitVec 32 := Scalar.extui v77
  let c0_i32_45 : BitVec 32 := 0#32
  let v79 : BitVec 1 := Scalar.cmpi .ne v78 c0_i32_45
  v79

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_84 : BitVec 32 := 1024#32
  let v142 : BitVec 32 := Scalar.muli v8 c1024_i32_84
  let c768_i32 : BitVec 32 := 768#32
  let v143 : BitVec 32 := Scalar.addi v142 c768_i32
  let v144 : Index := Scalar.indexCast v143
  let c0_85 : Index := 0#32
  ![v144.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v80 : BitVec 32 := Scalar.addi v8 c_m1_i32
  let c0_i32_46 : BitVec 32 := 0#32
  let v81 : BitVec 1 := Scalar.cmpi .sge v80 c0_i32_46
  let c4_i32_47 : BitVec 32 := 4#32
  let v82 : BitVec 1 := Scalar.cmpi .slt v80 c4_i32_47
  let v83 : BitVec 1 := Scalar.andi v81 v82
  let v84 : BitVec 32 := Scalar.extui v83
  let c0_i32_48 : BitVec 32 := 0#32
  let v85 : BitVec 1 := Scalar.cmpi .ne v84 c0_i32_48
  v85

def k0_off15 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v80 : BitVec 32 := Scalar.addi v8 c_m1_i32
  ![v80.toNat]
def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v80 : BitVec 32 := Scalar.addi v8 c_m1_i32
  let c1024_i32_83 : BitVec 32 := 1024#32
  let v140 : BitVec 32 := Scalar.muli v80 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev12 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev13 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev14 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v86 : BitVec 32 := Scalar.addi v8 c1_i32_49
  let c0_i32_50 : BitVec 32 := 0#32
  let v87 : BitVec 1 := Scalar.cmpi .sge v86 c0_i32_50
  let c4_i32_51 : BitVec 32 := 4#32
  let v88 : BitVec 1 := Scalar.cmpi .slt v86 c4_i32_51
  let v89 : BitVec 1 := Scalar.andi v87 v88
  let v90 : BitVec 32 := Scalar.extui v89
  let c0_i32_52 : BitVec 32 := 0#32
  let v91 : BitVec 1 := Scalar.cmpi .ne v90 c0_i32_52
  v91

def k0_off17 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v86 : BitVec 32 := Scalar.addi v8 c1_i32_49
  ![v86.toNat]
def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v86 : BitVec 32 := Scalar.addi v8 c1_i32_49
  let c1024_i32_83 : BitVec 32 := 1024#32
  let v140 : BitVec 32 := Scalar.muli v86 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev15 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev16 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev17 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32 : BitVec 32 := 4294967294#32
  let v92 : BitVec 32 := Scalar.addi v8 c_m2_i32
  let c0_i32_53 : BitVec 32 := 0#32
  let v93 : BitVec 1 := Scalar.cmpi .sge v92 c0_i32_53
  let c4_i32_54 : BitVec 32 := 4#32
  let v94 : BitVec 1 := Scalar.cmpi .slt v92 c4_i32_54
  let v95 : BitVec 1 := Scalar.andi v93 v94
  let v96 : BitVec 32 := Scalar.extui v95
  let c0_i32_55 : BitVec 32 := 0#32
  let v97 : BitVec 1 := Scalar.cmpi .ne v96 c0_i32_55
  v97

def k0_off19 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32 : BitVec 32 := 4294967294#32
  let v92 : BitVec 32 := Scalar.addi v8 c_m2_i32
  ![v92.toNat]
def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32 : BitVec 32 := 4294967294#32
  let v92 : BitVec 32 := Scalar.addi v8 c_m2_i32
  let c1024_i32_83 : BitVec 32 := 1024#32
  let v140 : BitVec 32 := Scalar.muli v92 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev18 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev19 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev20 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v98 : BitVec 32 := Scalar.addi v8 c2_i32_56
  let c0_i32_57 : BitVec 32 := 0#32
  let v99 : BitVec 1 := Scalar.cmpi .sge v98 c0_i32_57
  let c4_i32_58 : BitVec 32 := 4#32
  let v100 : BitVec 1 := Scalar.cmpi .slt v98 c4_i32_58
  let v101 : BitVec 1 := Scalar.andi v99 v100
  let v102 : BitVec 32 := Scalar.extui v101
  let c0_i32_59 : BitVec 32 := 0#32
  let v103 : BitVec 1 := Scalar.cmpi .ne v102 c0_i32_59
  v103

def k0_off21 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v98 : BitVec 32 := Scalar.addi v8 c2_i32_56
  ![v98.toNat]
def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v98 : BitVec 32 := Scalar.addi v8 c2_i32_56
  let c1024_i32_83 : BitVec 32 := 1024#32
  let v140 : BitVec 32 := Scalar.muli v98 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev21 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev22 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev23 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32 : BitVec 32 := 4294967293#32
  let v104 : BitVec 32 := Scalar.addi v8 c_m3_i32
  let c0_i32_60 : BitVec 32 := 0#32
  let v105 : BitVec 1 := Scalar.cmpi .sge v104 c0_i32_60
  let c4_i32_61 : BitVec 32 := 4#32
  let v106 : BitVec 1 := Scalar.cmpi .slt v104 c4_i32_61
  let v107 : BitVec 1 := Scalar.andi v105 v106
  let v108 : BitVec 32 := Scalar.extui v107
  let c0_i32_62 : BitVec 32 := 0#32
  let v109 : BitVec 1 := Scalar.cmpi .ne v108 c0_i32_62
  v109

def k0_off23 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32 : BitVec 32 := 4294967293#32
  let v104 : BitVec 32 := Scalar.addi v8 c_m3_i32
  ![v104.toNat]
def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32 : BitVec 32 := 4294967293#32
  let v104 : BitVec 32 := Scalar.addi v8 c_m3_i32
  let c1024_i32_83 : BitVec 32 := 1024#32
  let v140 : BitVec 32 := Scalar.muli v104 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev24 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev25 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev26 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v110 : BitVec 32 := Scalar.addi v8 c3_i32_63
  let c0_i32_64 : BitVec 32 := 0#32
  let v111 : BitVec 1 := Scalar.cmpi .sge v110 c0_i32_64
  let c4_i32_65 : BitVec 32 := 4#32
  let v112 : BitVec 1 := Scalar.cmpi .slt v110 c4_i32_65
  let v113 : BitVec 1 := Scalar.andi v111 v112
  let v114 : BitVec 32 := Scalar.extui v113
  let c0_i32_66 : BitVec 32 := 0#32
  let v115 : BitVec 1 := Scalar.cmpi .ne v114 c0_i32_66
  v115

def k0_off25 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v110 : BitVec 32 := Scalar.addi v8 c3_i32_63
  ![v110.toNat]
def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v110 : BitVec 32 := Scalar.addi v8 c3_i32_63
  let c1024_i32_83 : BitVec 32 := 1024#32
  let v140 : BitVec 32 := Scalar.muli v110 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_88 : BitVec 32 := 0#32
  ![v141.toNat, 0]
def k0_dev27 (d0 : Dev nD) : Nat :=
  let c0_i32_92 : BitVec 32 := 0#32
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v152 : BitVec 32 := Scalar.subi c1_i32_90 v2
  let c8_i32_91 : BitVec 32 := 8#32
  let v153 : BitVec 32 := Scalar.muli v152 c8_i32_91
  let v154 : BitVec 32 := Scalar.addi c0_i32_92 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v155 : BitVec 32 := Scalar.muli v5 c4_i32_93
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v157 : BitVec 32 := Scalar.muli v8 c1_i32_94
  let v158 : BitVec 32 := Scalar.addi v156 v157
  v158.toNat
def k0_dev28 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v166 : BitVec 32 := Scalar.muli v2 c8_i32_98
  let v167 : BitVec 32 := Scalar.addi c0_i32_99 v166
  let c1_i32_97 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v165 : BitVec 32 := Scalar.subi c1_i32_97 v5
  let c4_i32_100 : BitVec 32 := 4#32
  let v168 : BitVec 32 := Scalar.muli v165 c4_i32_100
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v170 : BitVec 32 := Scalar.muli v8 c1_i32_101
  let v171 : BitVec 32 := Scalar.addi v169 v170
  v171.toNat
def k0_dev29 (d0 : Dev nD) : Nat :=
  let c0_i32_107 : BitVec 32 := 0#32
  let c1_i32_104 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v178 : BitVec 32 := Scalar.subi c1_i32_104 v2
  let c8_i32_106 : BitVec 32 := 8#32
  let v180 : BitVec 32 := Scalar.muli v178 c8_i32_106
  let v181 : BitVec 32 := Scalar.addi c0_i32_107 v180
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v179 : BitVec 32 := Scalar.subi c1_i32_105 v5
  let c4_i32_108 : BitVec 32 := 4#32
  let v182 : BitVec 32 := Scalar.muli v179 c4_i32_108
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v184 : BitVec 32 := Scalar.muli v8 c1_i32_109
  let v185 : BitVec 32 := Scalar.addi v183 v184
  v185.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v116 : BitVec 1 := Scalar.cmpi .ne v8 c0_i32_67
  let v117 : BitVec 32 := Scalar.extui v116
  let c0_i32_68 : BitVec 32 := 0#32
  let v118 : BitVec 1 := Scalar.cmpi .ne v117 c0_i32_68
  v118

def k0_off27 (d0 : Dev nD) : Fin 2 → Nat :=
  let c0_i32_86 : BitVec 32 := 0#32
  let c2_i32_84 : BitVec 32 := 2#32
  let c1_i32_83 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v140 : BitVec 32 := Scalar.subi c1_i32_83 v2
  let v141 : BitVec 32 := Scalar.muli c2_i32_84 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v142 : BitVec 32 := Scalar.addi v141 v5
  let c256_i32_85 : BitVec 32 := 256#32
  let v143 : BitVec 32 := Scalar.muli v142 c256_i32_85
  let v144 : BitVec 32 := Scalar.addi c0_i32_86 v143
  let c0_i32_93 : BitVec 32 := 0#32
  ![v144.toNat, 0]
def k0_off28 (d0 : Dev nD) : Fin 2 → Nat :=
  let c0_i32_98 : BitVec 32 := 0#32
  let c2_i32_95 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v155 : BitVec 32 := Scalar.muli c2_i32_95 v2
  let c1_i32_96 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v156 : BitVec 32 := Scalar.subi c1_i32_96 v5
  let v157 : BitVec 32 := Scalar.addi v155 v156
  let c256_i32_97 : BitVec 32 := 256#32
  let v158 : BitVec 32 := Scalar.muli v157 c256_i32_97
  let v159 : BitVec 32 := Scalar.addi c0_i32_98 v158
  let c0_i32_105 : BitVec 32 := 0#32
  ![v159.toNat, 0]
def k0_off29 (d0 : Dev nD) : Fin 2 → Nat :=
  let c0_i32_111 : BitVec 32 := 0#32
  let c2_i32_108 : BitVec 32 := 2#32
  let c1_i32_107 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v170 : BitVec 32 := Scalar.subi c1_i32_107 v2
  let v171 : BitVec 32 := Scalar.muli c2_i32_108 v170
  let c1_i32_109 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v172 : BitVec 32 := Scalar.subi c1_i32_109 v5
  let v173 : BitVec 32 := Scalar.addi v171 v172
  let c256_i32_110 : BitVec 32 := 256#32
  let v174 : BitVec 32 := Scalar.muli v173 c256_i32_110
  let v175 : BitVec 32 := Scalar.addi c0_i32_111 v174
  let c0_i32_118 : BitVec 32 := 0#32
  ![v175.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v119 : BitVec 1 := Scalar.cmpi .ne v8 c1_i32_69
  let v120 : BitVec 32 := Scalar.extui v119
  let c0_i32_70 : BitVec 32 := 0#32
  let v121 : BitVec 1 := Scalar.cmpi .ne v120 c0_i32_70
  v121

def k0_off30 (d0 : Dev nD) : Fin 2 → Nat :=
  let c1024_i32_86 : BitVec 32 := 1024#32
  let c2_i32_84 : BitVec 32 := 2#32
  let c1_i32_83 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v140 : BitVec 32 := Scalar.subi c1_i32_83 v2
  let v141 : BitVec 32 := Scalar.muli c2_i32_84 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v142 : BitVec 32 := Scalar.addi v141 v5
  let c256_i32_85 : BitVec 32 := 256#32
  let v143 : BitVec 32 := Scalar.muli v142 c256_i32_85
  let v144 : BitVec 32 := Scalar.addi c1024_i32_86 v143
  let c0_i32_93 : BitVec 32 := 0#32
  ![v144.toNat, 0]
def k0_off31 (d0 : Dev nD) : Fin 2 → Nat :=
  let c1024_i32_98 : BitVec 32 := 1024#32
  let c2_i32_95 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v155 : BitVec 32 := Scalar.muli c2_i32_95 v2
  let c1_i32_96 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v156 : BitVec 32 := Scalar.subi c1_i32_96 v5
  let v157 : BitVec 32 := Scalar.addi v155 v156
  let c256_i32_97 : BitVec 32 := 256#32
  let v158 : BitVec 32 := Scalar.muli v157 c256_i32_97
  let v159 : BitVec 32 := Scalar.addi c1024_i32_98 v158
  let c0_i32_105 : BitVec 32 := 0#32
  ![v159.toNat, 0]
def k0_off32 (d0 : Dev nD) : Fin 2 → Nat :=
  let c1024_i32_111 : BitVec 32 := 1024#32
  let c2_i32_108 : BitVec 32 := 2#32
  let c1_i32_107 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v170 : BitVec 32 := Scalar.subi c1_i32_107 v2
  let v171 : BitVec 32 := Scalar.muli c2_i32_108 v170
  let c1_i32_109 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v172 : BitVec 32 := Scalar.subi c1_i32_109 v5
  let v173 : BitVec 32 := Scalar.addi v171 v172
  let c256_i32_110 : BitVec 32 := 256#32
  let v174 : BitVec 32 := Scalar.muli v173 c256_i32_110
  let v175 : BitVec 32 := Scalar.addi c1024_i32_111 v174
  let c0_i32_118 : BitVec 32 := 0#32
  ![v175.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_71 : BitVec 32 := 2#32
  let v122 : BitVec 1 := Scalar.cmpi .ne v8 c2_i32_71
  let v123 : BitVec 32 := Scalar.extui v122
  let c0_i32_72 : BitVec 32 := 0#32
  let v124 : BitVec 1 := Scalar.cmpi .ne v123 c0_i32_72
  v124

def k0_off33 (d0 : Dev nD) : Fin 2 → Nat :=
  let c2048_i32 : BitVec 32 := 2048#32
  let c2_i32_84 : BitVec 32 := 2#32
  let c1_i32_83 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v140 : BitVec 32 := Scalar.subi c1_i32_83 v2
  let v141 : BitVec 32 := Scalar.muli c2_i32_84 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v142 : BitVec 32 := Scalar.addi v141 v5
  let c256_i32_85 : BitVec 32 := 256#32
  let v143 : BitVec 32 := Scalar.muli v142 c256_i32_85
  let v144 : BitVec 32 := Scalar.addi c2048_i32 v143
  let c0_i32_92 : BitVec 32 := 0#32
  ![v144.toNat, 0]
def k0_off34 (d0 : Dev nD) : Fin 2 → Nat :=
  let c2048_i32_97 : BitVec 32 := 2048#32
  let c2_i32_94 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v155 : BitVec 32 := Scalar.muli c2_i32_94 v2
  let c1_i32_95 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v156 : BitVec 32 := Scalar.subi c1_i32_95 v5
  let v157 : BitVec 32 := Scalar.addi v155 v156
  let c256_i32_96 : BitVec 32 := 256#32
  let v158 : BitVec 32 := Scalar.muli v157 c256_i32_96
  let v159 : BitVec 32 := Scalar.addi c2048_i32_97 v158
  let c0_i32_104 : BitVec 32 := 0#32
  ![v159.toNat, 0]
def k0_off35 (d0 : Dev nD) : Fin 2 → Nat :=
  let c2048_i32_110 : BitVec 32 := 2048#32
  let c2_i32_107 : BitVec 32 := 2#32
  let c1_i32_106 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v170 : BitVec 32 := Scalar.subi c1_i32_106 v2
  let v171 : BitVec 32 := Scalar.muli c2_i32_107 v170
  let c1_i32_108 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v172 : BitVec 32 := Scalar.subi c1_i32_108 v5
  let v173 : BitVec 32 := Scalar.addi v171 v172
  let c256_i32_109 : BitVec 32 := 256#32
  let v174 : BitVec 32 := Scalar.muli v173 c256_i32_109
  let v175 : BitVec 32 := Scalar.addi c2048_i32_110 v174
  let c0_i32_117 : BitVec 32 := 0#32
  ![v175.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_73 : BitVec 32 := 3#32
  let v125 : BitVec 1 := Scalar.cmpi .ne v8 c3_i32_73
  let v126 : BitVec 32 := Scalar.extui v125
  let c0_i32_74 : BitVec 32 := 0#32
  let v127 : BitVec 1 := Scalar.cmpi .ne v126 c0_i32_74
  v127

def k0_off36 (d0 : Dev nD) : Fin 2 → Nat :=
  let c3072_i32 : BitVec 32 := 3072#32
  let c2_i32_84 : BitVec 32 := 2#32
  let c1_i32_83 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v140 : BitVec 32 := Scalar.subi c1_i32_83 v2
  let v141 : BitVec 32 := Scalar.muli c2_i32_84 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v142 : BitVec 32 := Scalar.addi v141 v5
  let c256_i32_85 : BitVec 32 := 256#32
  let v143 : BitVec 32 := Scalar.muli v142 c256_i32_85
  let v144 : BitVec 32 := Scalar.addi c3072_i32 v143
  let c0_i32_92 : BitVec 32 := 0#32
  ![v144.toNat, 0]
def k0_off37 (d0 : Dev nD) : Fin 2 → Nat :=
  let c3072_i32_97 : BitVec 32 := 3072#32
  let c2_i32_94 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v155 : BitVec 32 := Scalar.muli c2_i32_94 v2
  let c1_i32_95 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v156 : BitVec 32 := Scalar.subi c1_i32_95 v5
  let v157 : BitVec 32 := Scalar.addi v155 v156
  let c256_i32_96 : BitVec 32 := 256#32
  let v158 : BitVec 32 := Scalar.muli v157 c256_i32_96
  let v159 : BitVec 32 := Scalar.addi c3072_i32_97 v158
  let c0_i32_104 : BitVec 32 := 0#32
  ![v159.toNat, 0]
def k0_off38 (d0 : Dev nD) : Fin 2 → Nat :=
  let c3072_i32_110 : BitVec 32 := 3072#32
  let c2_i32_107 : BitVec 32 := 2#32
  let c1_i32_106 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v170 : BitVec 32 := Scalar.subi c1_i32_106 v2
  let v171 : BitVec 32 := Scalar.muli c2_i32_107 v170
  let c1_i32_108 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v172 : BitVec 32 := Scalar.subi c1_i32_108 v5
  let v173 : BitVec 32 := Scalar.addi v171 v172
  let c256_i32_109 : BitVec 32 := 256#32
  let v174 : BitVec 32 := Scalar.muli v173 c256_i32_109
  let v175 : BitVec 32 := Scalar.addi c3072_i32_110 v174
  let c0_i32_117 : BitVec 32 := 0#32
  ![v175.toNat, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_75 : BitVec 32 := 0#32
  let v128 : BitVec 1 := Scalar.cmpi .ne v8 c0_i32_75
  let v129 : BitVec 32 := Scalar.extui v128
  let c0_i32_76 : BitVec 32 := 0#32
  let v130 : BitVec 1 := Scalar.cmpi .ne v129 c0_i32_76
  v130

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_86 : BitVec 32 := 0#32
  ![v141.toNat, 0]
def k0_off40 (d0 : Dev nD) : Fin 2 → Nat :=
  let c0_i32_88 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v146 : BitVec 32 := Scalar.addi c0_i32_88 v11
  let c0_i32_92 : BitVec 32 := 0#32
  ![v146.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v131 : BitVec 1 := Scalar.cmpi .ne v8 c1_i32_77
  let v132 : BitVec 32 := Scalar.extui v131
  let c0_i32_78 : BitVec 32 := 0#32
  let v133 : BitVec 1 := Scalar.cmpi .ne v132 c0_i32_78
  v133

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_86 : BitVec 32 := 0#32
  ![v141.toNat, 0]
def k0_off42 (d0 : Dev nD) : Fin 2 → Nat :=
  let c1024_i32_88 : BitVec 32 := 1024#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v146 : BitVec 32 := Scalar.addi c1024_i32_88 v11
  let c0_i32_92 : BitVec 32 := 0#32
  ![v146.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_79 : BitVec 32 := 2#32
  let v134 : BitVec 1 := Scalar.cmpi .ne v8 c2_i32_79
  let v135 : BitVec 32 := Scalar.extui v134
  let c0_i32_80 : BitVec 32 := 0#32
  let v136 : BitVec 1 := Scalar.cmpi .ne v135 c0_i32_80
  v136

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_86 : BitVec 32 := 0#32
  ![v141.toNat, 0]
def k0_off44 (d0 : Dev nD) : Fin 2 → Nat :=
  let c2048_i32 : BitVec 32 := 2048#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v146 : BitVec 32 := Scalar.addi c2048_i32 v11
  let c0_i32_91 : BitVec 32 := 0#32
  ![v146.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_81 : BitVec 32 := 3#32
  let v137 : BitVec 1 := Scalar.cmpi .ne v8 c3_i32_81
  let v138 : BitVec 32 := Scalar.extui v137
  let c0_i32_82 : BitVec 32 := 0#32
  let v139 : BitVec 1 := Scalar.cmpi .ne v138 c0_i32_82
  v139

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_83 : BitVec 32 := 1024#32
  let v140 : BitVec 32 := Scalar.muli v8 c1024_i32_83
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v141 : BitVec 32 := Scalar.addi v140 v11
  let c0_i32_86 : BitVec 32 := 0#32
  ![v141.toNat, 0]
def k0_off46 (d0 : Dev nD) : Fin 2 → Nat :=
  let c3072_i32 : BitVec 32 := 3072#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v146 : BitVec 32 := Scalar.addi c3072_i32 v11
  let c0_i32_91 : BitVec 32 := 0#32
  ![v146.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The devices and the printed numbers

The mesh is `x × y × z = 2 × 2 × 4`. Device `c` is `4 * q + z`: its quarter `q = 2x + y` says which 256 rows of each
1024-row chunk it fetches for its `(x, y)` group, its slot `z` which chunk of the gathered array it holds at the start.
Here: the two coordinates, the one scheme of all transfers of the kernel, and the conditions, offsets and device
numbers the kernel computes, each brought to these coordinates by checking the sixteen devices.
-/
module

public import proofs.«01_k».proof.Proof.Gen.KernelIdeal
public import Idealize.ShloMosaic.Lib.Tactic

@[expose] public section

noncomputable section

namespace Cert.GatherProof

open Cert.KernelIdeal Cert.KernelIdeal.Gen
open Idealize.ShloMosaic Idealize.ShloMosaic.TcCoe
open Idealize.SL.Sem

/-! ## Coordinates -/

set_option backward.proofsInPublic true in
/-- The slot of a device: the chunk of the gathered array it starts with. -/
def zOf (c : Dev nD) : Fin 4 := ⟨c.val % 4, Nat.mod_lt _ (by decide)⟩

set_option backward.proofsInPublic true in
/-- The quarter of a device: the 256 rows of each chunk that it fetches over the slow axis. -/
def qOf (c : Dev nD) : Fin 4 := ⟨c.val / 4, Nat.div_lt_of_lt_mul c.isLt⟩

set_option backward.proofsInPublic true in
/-- The device of a given quarter and slot. -/
def devAt (q s : Fin 4) : Dev nD := ⟨4 * q.val + s.val, by have := q.isLt; have := s.isLt; show _ < 16; omega⟩

/-- The quarter a partner of direction `i` has: direction 0 keeps the quarter (it goes along `z`), 1 flips `x`, 2 flips
    `y`, 3 flips both. -/
def mateQ (i q : Fin 4) : Fin 4 := match i with
  | 0 => q | 1 => q + 2 | 2 => ![1, 0, 3, 2] q | 3 => ![3, 2, 1, 0] q

/-! ## The transfers

Transfer `(i, s)` of device `c`, for `s` other than the slot of `c`. Along `z` (`i = 0`): the block of `c`'s own chunk
goes to slot `s` of the same quarter. To a mate (`i = 1, 2, 3`): the block of chunk `s`, got over `z`, goes to the mate
of the same slot. -/

/-- The partner of transfer `(i, s)`. -/
def peer (i s : Fin 4) (c : Dev nD) : Dev nD := devAt (mateQ i (qOf c)) (if i = 0 then s else zOf c)

/-- The chunk that transfer `(i, s)` of `c` carries; also the place of its receive semaphore at the partner. -/
def rslot (i s : Fin 4) (c : Dev nD) : Fin 4 := if i = 0 then zOf c else s

/-- A device seen from its partner is the partner. -/
theorem peer_peer : ∀ (c : Dev nD) (i s : Fin 4), peer i (rslot i s c) (peer i s c) = c := by decide +kernel
/-- Carrying back over the same direction names the same slot. -/
theorem rslot_peer : ∀ (c : Dev nD) (i s : Fin 4), rslot i (rslot i s c) (peer i s c) = s := by decide +kernel
/-- A transfer's slot is other than the sender's iff the one it lands in is other than the receiver's. -/
theorem rslot_ne : ∀ (c : Dev nD) (i s : Fin 4), rslot i s c ≠ zOf (peer i s c) ↔ s ≠ zOf c := by decide +kernel
/-- The quarter a receiver expects in direction `i` is the sender's. -/
theorem mateQ_peer : ∀ (c : Dev nD) (i s : Fin 4), mateQ i (qOf (peer i s c)) = qOf c := by decide +kernel
/-- Going to a mate and back. -/
theorem mateQ_mateQ : ∀ i q : Fin 4, mateQ i (mateQ i q) = q := by decide
/-- The four directions reach the four quarters. -/
theorem mateQ_inj : ∀ q i j : Fin 4, mateQ i q = mateQ j q → i = j := by decide
/-- The quarter of the device at a quarter and a slot is that quarter. -/
theorem qOf_devAt : ∀ q s : Fin 4, qOf (devAt q s) = q := by decide
/-- The slot of the device at a quarter and a slot is that slot. -/
theorem zOf_devAt : ∀ q s : Fin 4, zOf (devAt q s) = s := by decide
/-- A device is the one at its quarter and its slot. -/
theorem devAt_self : ∀ c : Dev nD, devAt (qOf c) (zOf c) = c := by decide
/-- The quarter of a partner. -/
theorem qOf_peer (c : Dev nD) (i s : Fin 4) : qOf (peer i s c) = mateQ i (qOf c) := qOf_devAt _ _

/-- The transfers of all devices, each turned to the receive of its partner: an involution. -/
def flip : Dev nD × Fin 4 × Fin 4 ≃ Dev nD × Fin 4 × Fin 4 where
  toFun x := (peer x.2.1 x.2.2 x.1, x.2.1, rslot x.2.1 x.2.2 x.1)
  invFun x := (peer x.2.1 x.2.2 x.1, x.2.1, rslot x.2.1 x.2.2 x.1)
  left_inv x := by obtain ⟨c, i, s⟩ := x; simp only [peer_peer, rslot_peer]
  right_inv x := by obtain ⟨c, i, s⟩ := x; simp only [peer_peer, rslot_peer]

/-! ## The forwarding order

After the transfers along `z` the kernel forwards the chunks in the order `z-1, z+1, z-2, z+2, z-3, z+3`, passing over
those outside `0..3`. -/

/-- The chunk of forwarding step `n`; the device's own slot where the step is passed over. -/
def fwd (n : Fin 6) (c : Dev nD) : Fin 4 :=
  let z := (zOf c).val
  let d := n.val / 2 + 1
  if n.val % 2 = 0 then (if d ≤ z then Fin.ofNat 4 (z - d) else zOf c)
  else (if z + d ≤ 3 then Fin.ofNat 4 (z + d) else zOf c)

/-! ## The kernel's conditions -/

/-- A condition of a section on slot `s`: the device's slot is another. -/
theorem cond_sig : ∀ c : Dev nD, (k0_cond1 c = 1#1 ↔ zOf c ≠ 0) ∧ (k0_cond2 c = 1#1 ↔ zOf c ≠ 1)
    ∧ (k0_cond3 c = 1#1 ↔ zOf c ≠ 2) ∧ (k0_cond4 c = 1#1 ↔ zOf c ≠ 3) := by decide +kernel
/-- The conditions of the four transfers along `z`: the slot is another's. -/
theorem cond_zsend : ∀ c : Dev nD, (k0_cond5 c = 1#1 ↔ zOf c ≠ 0) ∧ (k0_cond6 c = 1#1 ↔ zOf c ≠ 1)
    ∧ (k0_cond7 c = 1#1 ↔ zOf c ≠ 2) ∧ (k0_cond8 c = 1#1 ↔ zOf c ≠ 3) := by decide +kernel
/-- The conditions of the four copies of the input: the quarter is another's. -/
theorem cond_store : ∀ c : Dev nD, (k0_cond9 c = 1#1 ↔ qOf c ≠ 0) ∧ (k0_cond10 c = 1#1 ↔ qOf c ≠ 1)
    ∧ (k0_cond11 c = 1#1 ↔ qOf c ≠ 2) ∧ (k0_cond12 c = 1#1 ↔ qOf c ≠ 3) := by decide +kernel
/-- The conditions of the six sections that pass a chunk on: the slot named is another's. -/
theorem cond_fwd : ∀ c : Dev nD, (k0_cond13 c = 1#1 ↔ zOf c ≠ fwd 0 c) ∧ (k0_cond14 c = 1#1 ↔ zOf c ≠ fwd 1 c)
    ∧ (k0_cond15 c = 1#1 ↔ zOf c ≠ fwd 2 c) ∧ (k0_cond16 c = 1#1 ↔ zOf c ≠ fwd 3 c)
    ∧ (k0_cond17 c = 1#1 ↔ zOf c ≠ fwd 4 c) ∧ (k0_cond18 c = 1#1 ↔ zOf c ≠ fwd 5 c) := by decide +kernel
/-- The conditions of the four waits for the mates: the slot is another's. -/
theorem cond_recv : ∀ c : Dev nD, (k0_cond19 c = 1#1 ↔ zOf c ≠ 0) ∧ (k0_cond20 c = 1#1 ↔ zOf c ≠ 1)
    ∧ (k0_cond21 c = 1#1 ↔ zOf c ≠ 2) ∧ (k0_cond22 c = 1#1 ↔ zOf c ≠ 3) := by decide +kernel
/-- The conditions of the four waits for the sends: the slot is another's. -/
theorem cond_drain : ∀ c : Dev nD, (k0_cond23 c = 1#1 ↔ zOf c ≠ 0) ∧ (k0_cond24 c = 1#1 ↔ zOf c ≠ 1)
    ∧ (k0_cond25 c = 1#1 ↔ zOf c ≠ 2) ∧ (k0_cond26 c = 1#1 ↔ zOf c ≠ 3) := by decide +kernel

/-! ## The devices addressed -/

/-- The devices signalled are the partners along `z` and the three mates. -/
theorem dev_sig : ∀ c : Dev nD, k0_dev1 c = (peer 0 0 c).val ∧ k0_dev2 c = (peer 0 1 c).val ∧ k0_dev3 c = (peer 0 2 c).val
    ∧ k0_dev4 c = (peer 0 3 c).val ∧ k0_dev5 c = (peer 1 0 c).val ∧ k0_dev6 c = (peer 2 0 c).val ∧ k0_dev7 c = (peer 3 0 c).val := by
  decide +kernel
/-- The targets of the transfers along `z`. -/
theorem dev_zsend : ∀ c : Dev nD, k0_dev8 c = (peer 0 0 c).val ∧ k0_dev9 c = (peer 0 1 c).val ∧ k0_dev10 c = (peer 0 2 c).val
    ∧ k0_dev11 c = (peer 0 3 c).val := by decide +kernel
/-- The targets of the first chunk passed on. -/
theorem dev_fwd0 : ∀ c : Dev nD, k0_dev12 c = (peer 1 (fwd 0 c) c).val ∧ k0_dev13 c = (peer 2 (fwd 0 c) c).val
    ∧ k0_dev14 c = (peer 3 (fwd 0 c) c).val := by decide +kernel
/-- The targets of the second. -/
theorem dev_fwd1 : ∀ c : Dev nD, k0_dev15 c = (peer 1 (fwd 1 c) c).val ∧ k0_dev16 c = (peer 2 (fwd 1 c) c).val
    ∧ k0_dev17 c = (peer 3 (fwd 1 c) c).val := by decide +kernel
/-- The targets of the third. -/
theorem dev_fwd2 : ∀ c : Dev nD, k0_dev18 c = (peer 1 (fwd 2 c) c).val ∧ k0_dev19 c = (peer 2 (fwd 2 c) c).val
    ∧ k0_dev20 c = (peer 3 (fwd 2 c) c).val := by decide +kernel
/-- The targets of the fourth. -/
theorem dev_fwd3 : ∀ c : Dev nD, k0_dev21 c = (peer 1 (fwd 3 c) c).val ∧ k0_dev22 c = (peer 2 (fwd 3 c) c).val
    ∧ k0_dev23 c = (peer 3 (fwd 3 c) c).val := by decide +kernel
/-- The targets of the fifth. -/
theorem dev_fwd4 : ∀ c : Dev nD, k0_dev24 c = (peer 1 (fwd 4 c) c).val ∧ k0_dev25 c = (peer 2 (fwd 4 c) c).val
    ∧ k0_dev26 c = (peer 3 (fwd 4 c) c).val := by decide +kernel
/-- The targets of the sixth. -/
theorem dev_fwd5 : ∀ c : Dev nD, k0_dev27 c = (peer 1 (fwd 5 c) c).val ∧ k0_dev28 c = (peer 2 (fwd 5 c) c).val
    ∧ k0_dev29 c = (peer 3 (fwd 5 c) c).val := by decide +kernel

/-! ## The offsets -/

/-- Where the block of quarter `k` in chunk `s` of the gathered array starts. -/
def blkOff (s k : Fin 4) : Fin 2 → ℕ := ![1024 * s.val + 256 * k.val, 0]
/-- Where quarter `k` of the device's own input block starts. -/
def inOff (k : Fin 4) : Fin 2 → ℕ := ![256 * k.val, 0]
/-- Where the semaphore of slot `s` is in its array of four. -/
def semOff (s : Fin 4) : Fin 1 → ℕ := ![s.val]

/-- The first copy takes the device's quarter of the input to its own block. -/
theorem off_own : ∀ c : Dev nD, k0_off1 c = inOff (qOf c) ∧ k0_off2 c = blkOff (zOf c) (qOf c) := by decide +kernel
/-- The receive semaphores of the transfers along `z` are those of the sender's slot. -/
theorem off_zsem : ∀ c : Dev nD, k0_off3 c = semOff (zOf c) ∧ k0_off5 c = semOff (zOf c) ∧ k0_off7 c = semOff (zOf c)
    ∧ k0_off9 c = semOff (zOf c) := by decide +kernel
/-- The block sent along `z` is the device's own. -/
theorem off_zblk : ∀ c : Dev nD, k0_off4 c = blkOff (zOf c) (qOf c) ∧ k0_off6 c = blkOff (zOf c) (qOf c)
    ∧ k0_off8 c = blkOff (zOf c) (qOf c) ∧ k0_off10 c = blkOff (zOf c) (qOf c) := by decide +kernel
/-- The copies of the input go to the blocks of the device's own chunk. -/
theorem off_store : ∀ c : Dev nD, k0_off11 c = blkOff (zOf c) 0 ∧ k0_off12 c = blkOff (zOf c) 1
    ∧ k0_off13 c = blkOff (zOf c) 2 ∧ k0_off14 c = blkOff (zOf c) 3 := by decide +kernel
/-- The semaphores of a chunk passed on are those of the chunk's slot. -/
theorem off_fwd_sem : ∀ c : Dev nD, (zOf c ≠ fwd 0 c → k0_off15 c = semOff (fwd 0 c)) ∧ (zOf c ≠ fwd 1 c → k0_off17 c = semOff (fwd 1 c))
    ∧ (zOf c ≠ fwd 2 c → k0_off19 c = semOff (fwd 2 c)) ∧ (zOf c ≠ fwd 3 c → k0_off21 c = semOff (fwd 3 c))
    ∧ (zOf c ≠ fwd 4 c → k0_off23 c = semOff (fwd 4 c)) ∧ (zOf c ≠ fwd 5 c → k0_off25 c = semOff (fwd 5 c)) := by decide +kernel
/-- The block passed on is the device's quarter of the chunk. -/
theorem off_fwd_blk : ∀ c : Dev nD, (zOf c ≠ fwd 0 c → k0_off16 c = blkOff (fwd 0 c) (qOf c)) ∧ (zOf c ≠ fwd 1 c → k0_off18 c = blkOff (fwd 1 c) (qOf c))
    ∧ (zOf c ≠ fwd 2 c → k0_off20 c = blkOff (fwd 2 c) (qOf c)) ∧ (zOf c ≠ fwd 3 c → k0_off22 c = blkOff (fwd 3 c) (qOf c))
    ∧ (zOf c ≠ fwd 4 c → k0_off24 c = blkOff (fwd 4 c) (qOf c)) ∧ (zOf c ≠ fwd 5 c → k0_off26 c = blkOff (fwd 5 c) (qOf c)) := by decide +kernel

/-! ## The erased sets

A section on slot `s` is run by every device of another slot, so the slots left over are counted from the set of the
other slots. -/

/-- The slots other than the device's own: those it exchanges with. -/
def others (c : Dev nD) : Finset (Fin 4) := Finset.univ.erase (zOf c)
/-- The quarters other than the device's own. -/
def othersQ (c : Dev nD) : Finset (Fin 4) := Finset.univ.erase (qOf c)

/-- The other slots are those that differ from the device's. -/
theorem mem_others (c : Dev nD) (s : Fin 4) : s ∈ others c ↔ zOf c ≠ s := by
  unfold others; rw [Finset.mem_erase]; exact ⟨fun h => h.1.symm, fun h => ⟨h.symm, Finset.mem_univ _⟩⟩
/-- The other quarters are those that differ from the device's. -/
theorem mem_othersQ (c : Dev nD) (k : Fin 4) : k ∈ othersQ c ↔ qOf c ≠ k := by
  unfold othersQ; rw [Finset.mem_erase]; exact ⟨fun h => h.1.symm, fun h => ⟨h.symm, Finset.mem_univ _⟩⟩

end Cert.GatherProof

end
-- ==== Proof.Blocks.lean ====
/-
# The sixteen blocks of the gathered array, and their contents

The result buffer of a device is 4096 rows: chunk `s` (1024 rows) is what the devices of slot `s` hold, and quarter `k`
of it (256 rows) is one block, the unit of every transfer. Here: the blocks as memrefs, the whole buffer as its sixteen
blocks, what the buffer holds at the end (`outAt`), and that a transfer and a store each leave a block of that.
-/
module

public import proofs.«01_k».proof.Proof.Mesh
public import proofs.«01_k».proof.Proof.Gen.KernelIdeal.Skeleton
public import Idealize.ShloMosaic.Lib.Pipeline.Launch
public import Idealize.ShloMosaic.Lib.Pipeline.Kit
public import Idealize.ShloMosaic.Lib.Pipeline.Value

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The names of the duties of one round of a cell: on a barrier cell, the transfer `(i, s)` whose permission the
    payer hands over. -/
abbrev DutyName : Type := Fin 4 × Fin 4
/-- The ghost state of this proof's own cells. -/
abbrev UG : Type := URounds (GSem nD τ sig) DutyName
/-- The pipeline library's ghost state beside this proof's. -/
abbrev UU : Type := UR sig nD τ × UG

local notation "𝕄" => MT nD τ sig Unit (Elt F) ℕ UU ℕ

/-- The pipeline library's component of the ghost state. -/
abbrev EP : Emb (UR sig nD τ) (MT nD τ sig Unit (Elt F) ℕ UU ℕ) := embL
/-- This proof's component of the ghost state. -/
abbrev ER : Emb UG (MT nD τ sig Unit (Elt F) ℕ UU ℕ) := embR

/-! ## Blocks -/

/-- The staged input block of a device. -/
abbrev xM : Memref sig .tc .vmem S1024x512 .bf16 := Memref.whole cc0_stg0_0
/-- The staged result of a device. -/
abbrev oM : Memref sig .tc .vmem S4096x512 .bf16 := Memref.whole cc0_stg1_0

/-- Every block lies within the gathered array. -/
theorem blk_inb : ∀ s k : Fin 4, ∀ a, blkOff s k a + S256x512.size a ≤ S4096x512.size a := by decide
/-- Every quarter lies within the input block. -/
theorem in_inb : ∀ k : Fin 4, ∀ a, inOff k a + S256x512.size a ≤ S1024x512.size a := by decide

/-- The rows of block `(s, k)`: chunk `s`, quarter `k`. -/
abbrev blkR (s k : Fin 4) : Rect S4096x512 := Rect.unit (s := S4096x512) (blkOff s k) S256x512.size (blk_inb s k)
/-- The rows of quarter `k` of the input block. -/
abbrev inR (k : Fin 4) : Rect S1024x512 := Rect.unit (s := S1024x512) (inOff k) S256x512.size (in_inb k)
/-- Block `(s, k)` of the result buffer. -/
abbrev blkM (s k : Fin 4) : Memref sig .tc .vmem S256x512 .bf16 := oM.slice (blkR s k) (fun _ => rfl)

/-- The credit of one block's transfer. -/
def N : ℕ := (blkM 0 0).view.dmaCredit
/-- A transfer of one block credits its semaphores something. -/
theorem N_pos : 0 < N := View.dmaCredit_pos _ (by decide)
/-- Every slice of the result buffer of a block's size has a block's credit. -/
theorem credit_slice (off : Fin 2 → ℕ) (inb : ∀ a, off a + S256x512.size a ≤ S4096x512.size a) :
    (oM.slice (Rect.unit (s := S4096x512) off S256x512.size inb) (fun _ => rfl) : Memref sig .tc .vmem S256x512 .bf16).view.dmaCredit = N := rfl

/-- The elements of block `(s, k)`. -/
def blkSet (s k : Fin 4) : Finset S4096x512.Idx := (blkR s k).set

/-- The elements that the memref of a block reaches are the block. -/
theorem blkM_set (s k : Fin 4) : (blkM s k).view.set = blkSet s k := View.set_slice_whole cc0_stg1_0 (blkR s k)

/-- A row and column are in block `(s, k)` iff the row is one of its 256. -/
theorem mem_blkSet (s k : Fin 4) (i : S4096x512.Idx) :
    i ∈ blkSet s k ↔ 1024 * s.val + 256 * k.val ≤ (i 0).val ∧ (i 0).val < 1024 * s.val + 256 * k.val + 256 := by
  unfold blkSet
  rw [Rect.mem_set_unit]
  constructor
  · intro h; exact h 0
  · intro h a
    match a with
    | ⟨0, _⟩ => exact h
    | ⟨1, _⟩ => exact ⟨Nat.zero_le _, (i 1).isLt⟩

/-- Different blocks share no element. -/
theorem blkSet_disjoint {s k s' k' : Fin 4} (h : (s, k) ≠ (s', k')) : Disjoint (blkSet s k) (blkSet s' k') := by
  rw [Finset.disjoint_left]
  intro i hi hi'
  rw [mem_blkSet] at hi hi'
  have hs := s.isLt; have hk := k.isLt; have hs' := s'.isLt; have hk' := k'.isLt
  apply h
  have h1 : s.val = s'.val := by omega
  have h2 : k.val = k'.val := by omega
  rw [Fin.ext h1, Fin.ext h2]

/-- The blocks cover the buffer. -/
theorem blkSet_cover : (Finset.univ : Finset (Fin 4 × Fin 4)).biUnion (fun x => blkSet x.1 x.2) = Finset.univ := by
  ext i
  simp only [Finset.mem_biUnion, Finset.mem_univ, true_and, iff_true]
  have h0 : (i 0).val < 4096 := (i 0).isLt
  refine ⟨(⟨(i 0).val / 1024, by omega⟩, ⟨(i 0).val % 1024 / 256, by omega⟩), ?_⟩
  rw [mem_blkSet]
  dsimp only
  omega

/-- Device `c` holds block `(s, k)` of its result buffer at share `q`, the buffer's contents `f` there. -/
def blkPts (c : Dev nD) (s k : Fin 4) (q : PosShare TreeShare) (f : Buf (Elt F) ((c : Thread nD τ).loc cc0_stg1_0)) : sProp 𝕄 :=
  (((c : Thread nD τ).loc cc0_stg1_0) ↦[blkSet s k]{q} f)

omit [FloatOps F] in
/-- The ownership of a block may be kept in an invariant. -/
instance blkPts_storable (c : Dev nD) (s k : Fin 4) (q) (f) : BI.Storable (upEmb : UEmb _ 𝕄) (blkPts (F := F) c s k q f) := by
  unfold blkPts; infer_instance

omit [FloatOps F] in
/-- The whole result buffer is its sixteen blocks. -/
theorem out_blocks (c : Dev nD) (q : PosShare TreeShare) (f : Buf (Elt F) ((c : Thread nD τ).loc cc0_stg1_0)) :
    ((((c : Thread nD τ).loc cc0_stg1_0) ↦{q} f : sProp 𝕄))
      = bigSep Finset.univ fun s : Fin 4 => bigSep Finset.univ fun k : Fin 4 => blkPts c s k q f := by
  rw [← bigSep_univ_prod (fun x : Fin 4 × Fin 4 => blkPts c x.1 x.2 q f)]
  unfold blkPts
  refine Eq.trans ?_ (pointsTo_biUnion (ℓ := (c : Thread nD τ).loc cc0_stg1_0) Finset.univ (fun x : Fin 4 × Fin 4 => blkSet x.1 x.2)
    (fun x _ y _ h => blkSet_disjoint h))
  exact congrArg (fun S : Finset S4096x512.Idx => ((((c : Thread nD τ).loc cc0_stg1_0) ↦[S]{q} f : sProp 𝕄))) blkSet_cover.symm

/-! ## Contents -/

/-- The blocks of the input the devices hold. -/
abbrev Inputs (F : FTy → Type) : Type := Dev nD → (cc0_stg0_0 : Ref sig .tc).ty.Contents (Elt F)

/-- The row and column of the input block that a row and column of the gathered array come from. -/
def inIdx (i : S4096x512.Idx) : S1024x512.Idx :=
  fun | ⟨0, _⟩ => ⟨(i 0).val % 1024, Nat.mod_lt _ (by decide)⟩ | ⟨1, _⟩ => i 1

/-- The device whose input a row of `c`'s result comes from: `c` itself on its own chunk, elsewhere the device of the
    row's chunk and quarter. -/
def srcDev (c : Dev nD) (i : S4096x512.Idx) : Dev nD :=
  if (i 0).val / 1024 = (zOf c).val then c
  else devAt (Fin.ofNat 4 ((i 0).val % 1024 / 256)) (Fin.ofNat 4 ((i 0).val / 1024))

/-- What device `c`'s result buffer holds when the kernel ends. -/
def outAt (X : Inputs F) (c : Dev nD) : (cc0_stg1_0 : Ref sig .tc).ty.Contents (Elt F) :=
  fun i => X (srcDev c i) (inIdx i)

/-- On the block a transfer carries, sender and receiver take the rows from one device. -/
theorem srcDev_peer (c : Dev nD) (i s : Fin 4) (hs : s ≠ zOf c) (x : S4096x512.Idx) (hx : x ∈ blkSet (rslot i s c) (qOf c)) :
    srcDev (peer i s c) x = srcDev c x := by
  have key : ∀ (c : Dev nD) (i s : Fin 4), s ≠ zOf c →
      (if (rslot i s c).val = (zOf (peer i s c)).val then peer i s c else devAt (qOf c) (rslot i s c))
        = if (rslot i s c).val = (zOf c).val then c else devAt (qOf c) (rslot i s c) := by decide +kernel
  rw [mem_blkSet] at hx
  have h1 : (x 0).val / 1024 = (rslot i s c).val := by have := (qOf c).isLt; omega
  have h2 : (x 0).val % 1024 / 256 = (qOf c).val := by have := (qOf c).isLt; omega
  have h3 : Fin.ofNat 4 ((x 0).val % 1024 / 256) = qOf c := by rw [h2]; exact Fin.ext (Nat.mod_eq_of_lt (qOf c).isLt)
  have h4 : Fin.ofNat 4 ((x 0).val / 1024) = rslot i s c := by rw [h1]; exact Fin.ext (Nat.mod_eq_of_lt (rslot i s c).isLt)
  unfold srcDev
  rw [h3, h4, h1]
  exact key c i s hs

omit [FloatOps F] in
/-- On the block a transfer carries, sender and receiver end with the same contents. -/
theorem outAt_peer (X : Inputs F) (c : Dev nD) (i s : Fin 4) (hs : s ≠ zOf c) (x : S4096x512.Idx)
    (hx : x ∈ blkSet (rslot i s c) (qOf c)) : outAt X (peer i s c) x = outAt X c x := by
  unfold outAt; rw [srcDev_peer c i s hs x hx]

omit [FloatOps F] in
/-- Copying a view's contents over other contents leaves, on the view, what was copied. -/
theorem write_read_on {κ : Kind} {sp : Space} {s : Shape} {e : EltTy} (v : View sig κ sp s e) (f g : v.ty.Contents (Elt F)) :
    ∀ i ∈ v.set, v.write (Elt F) g (v.read (Elt F) f) Finset.univ i = f i := by
  intro i hi
  obtain ⟨x, -, rfl⟩ := Finset.mem_map.mp hi
  rw [View.write_emb_of_mem _ _ (Finset.mem_univ x), View.read_apply, cast_cast, cast_eq]

omit [FloatOps F] in
/-- A block that arrived: the partner's block holds what the partner is to end with. -/
theorem landed_pts (X : Inputs F) (c : Dev nD) (i s : Fin 4) (hs : s ≠ zOf c)
    (g : Buf (Elt F) ((peer i s c : Thread nD τ).loc cc0_stg1_0)) :
    (((blkM (rslot i s c) (qOf c)).view.loc (peer i s c : Thread nD τ))
        ↦[(blkM (rslot i s c) (qOf c)).view.set]{fullShare} ((blkM (rslot i s c) (qOf c)).view.write (Elt F) g
          ((blkM (rslot i s c) (qOf c)).view.read (Elt F) (outAt X c)) Finset.univ) : sProp 𝕄)
      = blkPts (peer i s c) (rslot i s c) (qOf c) fullShare (outAt X (peer i s c)) := by
  unfold blkPts
  rw [← blkM_set]
  refine pointsTo_congr fun x hx => ?_
  refine (write_read_on (blkM (rslot i s c) (qOf c)).view (outAt X c) g x hx).trans ?_
  rw [blkM_set] at hx
  exact (outAt_peer X c i s hs x hx).symm

/-- Where element `y` of block `(s, k)` is in the buffer. -/
theorem blkR_emb (s k : Fin 4) (y : S256x512.Idx) : (blkR s k).emb y ∈ blkSet s k := by
  unfold blkSet; rw [← Rect.map_emb_univ]; exact Finset.mem_map_of_mem _ (Finset.mem_univ y)

/-- Element `y` of block `(z, k)` comes from element `y` of quarter `k` of the input. -/
theorem inIdx_emb (s k : Fin 4) (y : S256x512.Idx) : inIdx ((blkR s k).emb y) = (inR k).emb y := by
  funext a
  have hk := k.isLt
  match a with
  | ⟨0, _⟩ =>
    apply Fin.ext
    show (1024 * s.val + 256 * k.val + 1 * (y 0).val) % 1024 = 256 * k.val + 1 * (y 0).val
    have : (y 0).val < 256 := (y 0).isLt
    omega
  | ⟨1, _⟩ => rfl

omit [FloatOps F] in
/-- Storing quarter `k` of the input block into block `(zOf c, k)` leaves what the result is to hold there. -/
theorem stored_on (X : Inputs F) (c : Dev nD) (k : Fin 4) (g : Buf (Elt F) ((c : Thread nD τ).loc cc0_stg1_0))
    (h : S256x512.ShapeCasts S256x512) :
    ∀ i ∈ blkSet (zOf c) k, (oM.access (blkR (zOf c) k)).write (Elt F) g
      (shapeCast S256x512 ((xM.access (inR k)).read (Elt F) (X c)) h) Finset.univ i = outAt X c i := by
  intro i hi
  rw [← blkM_set] at hi
  obtain ⟨y, -, rfl⟩ := Finset.mem_map.mp hi
  refine (View.write_emb_of_mem (v := oM.access (blkR (zOf c) k)) g _ (Finset.mem_univ y)).trans ?_
  refine (congrFun (shapeCast_self (s := S256x512) ((xM.access (inR k)).read (Elt F) (X c)) h) y).trans ?_
  show X c ((inR k).emb y) = X (srcDev c ((blkR (zOf c) k).emb y)) (inIdx ((blkR (zOf c) k).emb y))
  have hm := (mem_blkSet _ _ _).mp (blkR_emb (zOf c) k y)
  have hs : srcDev c ((blkR (zOf c) k).emb y) = c := by
    unfold srcDev
    exact if_pos (by have := k.isLt; omega)
  rw [inIdx_emb, hs]

/-! ## Shares

A block is read by up to four transfers at once, so its full share is cut in four. -/

/-- The four quarter shares. -/
def sh : Fin 4 → PosShare TreeShare
  | 0 => fullShare.left.left | 1 => fullShare.left.right | 2 => fullShare.right.left | 3 => fullShare.right.right

omit [FloatOps F] in
/-- A block at the full share is the block at each of the four. -/
theorem blk_shares (c : Dev nD) (s k : Fin 4) (f : Buf (Elt F) ((c : Thread nD τ).loc cc0_stg1_0)) :
    blkPts (F := F) c s k fullShare f = bigSep Finset.univ fun j : Fin 4 => blkPts c s k (sh j) f := by
  have half (q : PosShare TreeShare) : blkPts (F := F) c s k q f = iprop(blkPts c s k q.left f ∗ blkPts c s k q.right f) := by
    unfold blkPts
    exact BI.Entails.antisymm (pointsTo_share (PosShare.mem_left_op_right q)).1 (pointsTo_share (PosShare.mem_left_op_right q)).2
  rw [bigSep_univ_eq_bigSepL [0, 1, 2, 3] (by decide) (by decide)]
  simp only [bigSepL_cons_cons, bigSepL_singleton]
  rw [half fullShare, half fullShare.left, half fullShare.right]
  exact BI.Entails.antisymm BI.sep_assoc BI.sep_assoc'

/-- The share at which transfer `(i, s)` reads its block: along `z` one block goes to three slots, to the mates one
    block goes in three directions. -/
def xshare (i s : Fin 4) : PosShare TreeShare := if i = 0 then sh s else sh i

end Cert.GatherProof

end
-- ==== Proof.Schedule.lean ====
/-
# The protocol of the gather

Every device has one barrier cell and, for each transfer `(i, s)`, a send and a receive cell (its two semaphores). All
cells have one round. A barrier cell's six payers are the three devices along `z` and the three mates; each hands over
the blocks of its result buffer that the waiting device is to fill. A receive cell's payer hands over the filled block, a
send cell's the share of the block that was read.
-/
module

public import proofs.«01_k».proof.Proof.Blocks

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The barrier semaphore. -/
abbrev barS : Sem sig := (SemArray.scalar (sig.barrier 0 rfl) : Sems sig S_).sem

set_option backward.proofsInPublic true in
/-- The DMA semaphore of transfer `(i, s)`: `b = 0` counts what left, `b = 1` what arrived. -/
def xsem (b : Fin 2) (i s : Fin 4) : DmaSem sig :=
  ⟨2 + 8 * i.val + 4 * b.val + s.val, by have := b.isLt; have := i.isLt; have := s.isLt; show _ < 34; omega⟩

/-- The names of a device's cells: the barrier, or side `b` of transfer `(i, s)`. -/
abbrev CellIx : Type := Option (Fin 2 × Fin 4 × Fin 4)

/-- The semaphore of a named cell. -/
@[reducible] def csem : CellIx → SemLoc sig
  | none => .reg barS
  | some (b, i, s) => .dma (xsem b i s)

set_option backward.proofsInPublic true in
/-- The name of a semaphore's cell, if it is one of the protocol's. -/
def dec : SemLoc sig → Option CellIx
  | .reg sm => if sm = barS then some none else none
  | .dma sm => if 2 ≤ sm.val then
      some (some (⟨(sm.val - 2) / 4 % 2, Nat.mod_lt _ (by decide)⟩, ⟨(sm.val - 2) / 8 % 4, Nat.mod_lt _ (by decide)⟩,
        ⟨(sm.val - 2) % 4, Nat.mod_lt _ (by decide)⟩))
    else none

/-- A cell's semaphore has the cell's name. -/
theorem dec_csem : ∀ k : CellIx, dec (csem k) = some k := by decide

/-- Different indices are different semaphores. -/
theorem csem_injective : Function.Injective csem := fun k k' h => by
  have := congrArg dec h
  rw [dec_csem, dec_csem] at this
  exact Option.some.inj this

/-- Cell `k` of device `c`. -/
abbrev cell (c : Dev nD) (k : CellIx) : GSem nD τ sig := ((c : Thread nD τ), csem k)
/-- The barrier cell of `c`. -/
abbrev barCell (c : Dev nD) : GSem nD τ sig := cell c none
/-- The send cell of transfer `(i, s)` of `c`. -/
abbrev sCell (c : Dev nD) (i s : Fin 4) : GSem nD τ sig := cell c (some (0, i, s))
/-- The receive cell of direction `i`, slot `s` of `c`. -/
abbrev rCell (c : Dev nD) (i s : Fin 4) : GSem nD τ sig := cell c (some (1, i, s))

set_option backward.proofsInPublic true in
/-- The array of the four semaphores of side `b` of direction `i`. -/
def scr (b : Fin 2) (i : Fin 4) : DmaSems sig S4 :=
  SemArray.consecutive (2 + 8 * i.val + 4 * b.val) S4 (by
    have := b.isLt; have := i.isLt; show _ + S4.numel ≤ 34
    have h4 : S4.numel = 4 := by decide
    omega)

/-- Slot `s` as an index of an array of four. -/
def slotIx (s : Fin 4) : S4.Idx := fun | ⟨0, _⟩ => s

/-- The semaphore taken out of an array at slot `s`. -/
theorem sem_slot (b : Fin 2) (i s : Fin 4) {off : Fin 1 → ℕ} (hoff : off = semOff s) (inb : ∀ a, off a + S1.size a ≤ S4.size a)
    (hq : S1.Squeezes S_) : (((scr b i).slice (Rect.unit (s := S4) off S1.size inb)).squeeze S_ hq).sem = xsem b i s := by
  subst hoff
  have hemb (j : S1.Idx) : (Rect.unit (s := S4) (semOff s) S1.size inb).emb j = slotIx s := by
    funext a
    match a with
    | ⟨0, _⟩ =>
      apply Fin.ext
      show s.val + 1 * (j 0).val = s.val
      have : (j 0).val < 1 := (j 0).isLt
      omega
  have hrow : ∀ s : Fin 4, (S4.rowMajor (slotIx s)).val = s.val := by decide
  refine (congrArg (fun x : S4.Idx => (scr b i).ix x) (hemb _)).trans (Fin.ext ?_)
  exact congrArg (2 + 8 * i.val + 4 * b.val + ·) (hrow s)

/-! ## The schedule -/

/-- The transfers a device takes part in: every direction, every slot but its own. -/
def xfers (c : Dev nD) : Finset (Fin 4 × Fin 4) := Finset.univ.filter fun x => x.2 ≠ zOf c
/-- The six signals a device sends and awaits: one along `z` for each other slot, one for each of the three mates. -/
def sigs (c : Dev nD) : Finset (Fin 4 × Fin 4) := Finset.univ.filter fun x => if x.1 = 0 then x.2 ≠ zOf c else x.2 = zOf c

/-- The block that transfer `(i, s)` of `c` fills at the partner, with any contents. -/
def destPts (c : Dev nD) (i s : Fin 4) : sProp 𝕄 := iprop(∃ f, blkPts (F := F) (peer i s c) (rslot i s c) (qOf c) fullShare f)

/-- What the payer of signal `(i, s)` hands `c`: along `z` the one block to fill, at a mate the blocks of all other slots. -/
def barPay (c : Dev nD) (d : DutyName) : sProp 𝕄 :=
  if d.1 = 0 then destPts (F := F) c 0 d.2 else bigSep (others c) fun s => destPts (F := F) c d.1 s

/-- The block that direction `i` fills at `c` for chunk `s`, filled. -/
def recvPay (X : Inputs F) (c : Dev nD) (i s : Fin 4) : sProp 𝕄 := blkPts c s (mateQ i (qOf c)) fullShare (outAt X c)
/-- The share of the block that transfer `(i, s)` of `c` read. -/
def sendPay (X : Inputs F) (c : Dev nD) (i s : Fin 4) : sProp 𝕄 := blkPts c (rslot i s c) (qOf c) (xshare i s) (outAt X c)

/-- The duties of cell `k` of `c` in its round. -/
def dutiesOf (c : Dev nD) : CellIx → Finset DutyName
  | none => sigs c
  | some (_, _, s) => if s ≠ zOf c then {(0, 0)} else ∅

/-- What the payer of duty `d` of cell `k` of `c` hands over. -/
def payOf (X : Inputs F) (c : Dev nD) (d : DutyName) : CellIx → sProp 𝕄
  | none => barPay c d
  | some (b, i, s) => if b = 0 then sendPay X c i s else recvPay X c i s

/-- A signal counts one; a transfer counts its block. -/
def amtOf : CellIx → ℕ
  | none => 1
  | some _ => N

omit [FloatOps F] in
/-- The blocks a waiting device is to fill may be kept in an invariant. -/
instance destPts_storable (c : Dev nD) (i s : Fin 4) : BI.Storable (upEmb : UEmb _ 𝕄) (destPts (F := F) c i s) := by
  unfold destPts; infer_instance
omit [FloatOps F] in
/-- What a signal hands over may be kept in an invariant. -/
instance barPay_storable (c : Dev nD) (d : DutyName) : BI.Storable (upEmb : UEmb _ 𝕄) (barPay (F := F) c d) := by
  unfold barPay; split <;> infer_instance
omit [FloatOps F] in
/-- What any duty hands over may be kept in an invariant. -/
instance payOf_storable (X : Inputs F) (c : Dev nD) (d : DutyName) (k : CellIx) : BI.Storable (upEmb : UEmb _ 𝕄) (payOf X c d k) := by
  unfold payOf recvPay sendPay
  match k with
  | none => infer_instance
  | some (b, i, s) => dsimp only; split <;> infer_instance

/-- The schedule: one round per cell. -/
def Rd (X : Inputs F) : Rounds.Schedule (GSem nD τ sig) DutyName 𝕄 where
  duties g r := if r = 0 ∧ g.1.2 = .tc then ((dec g.2).map (dutiesOf g.1.1)).getD ∅ else ∅
  unitless _ := False
  amount g _ _ := ((dec g.2).map amtOf).getD 1
  payload g _ d := ((dec g.2).map (payOf X g.1.1 d)).getD iprop(emp)
  amount_pos g _ _ _ := by
    cases dec g.2 with
    | none => exact Nat.one_pos
    | some k => cases k with
      | none => exact Nat.one_pos
      | some _ => exact N_pos

omit [FloatOps F] in
/-- Every payload of the schedule may be kept in an invariant. -/
instance Rd_payload_storable (X : Inputs F) (g : GSem nD τ sig) (r : ℕ) (d : DutyName) :
    BI.Storable (upEmb : UEmb _ 𝕄) ((Rd X).payload g r d) := by
  show BI.Storable upEmb (((dec g.2).map (payOf X g.1.1 d)).getD iprop(emp))
  cases dec g.2 with
  | none => show BI.Storable upEmb (iprop(emp) : sProp 𝕄); infer_instance
  | some k => exact payOf_storable X g.1.1 d k

section Facts
variable (X : Inputs F) (c : Dev nD)

omit [FloatOps F] in
/-- The duties of a cell in its one round. -/
theorem duties_cell (k : CellIx) : (Rd X).duties (cell c k) 0 = dutiesOf c k := by
  dsimp only [Rd]; rw [if_pos ⟨rfl, rfl⟩, dec_csem]; rfl
omit [FloatOps F] in
/-- There is no later round. -/
theorem duties_later (g : GSem nD τ sig) : ∀ r, 1 ≤ r → (Rd X).duties g r = ∅ :=
  fun r hr => by dsimp only [Rd]; exact if_neg fun h => by omega
omit [FloatOps F] in
/-- The amount of a duty of a cell. -/
theorem amount_cell (k : CellIx) (d : DutyName) : (Rd X).amount (cell c k) 0 d = amtOf k := by
  dsimp only [Rd]; rw [dec_csem]; rfl
omit [FloatOps F] in
/-- A transfer pays the credit of one block. -/
theorem amount_xfer (b : Fin 2) (i s : Fin 4) (d : DutyName) : (Rd X).amount (cell c (some (b, i, s))) 0 d = N :=
  (amount_cell X c (some (b, i, s)) d).trans rfl
omit [FloatOps F] in
/-- The payload of a duty of a cell. -/
theorem payload_cell (k : CellIx) (d : DutyName) : (Rd X).payload (cell c k) 0 d = payOf X c d k := by
  dsimp only [Rd]; rw [dec_csem]; rfl

omit [FloatOps F] in
/-- An unused cell has no duty in any round. -/
theorem duties_unused (b : Fin 2) (i : Fin 4) : ∀ r, 0 ≤ r → (Rd X).duties (cell c (some (b, i, zOf c))) r = ∅ := by
  intro r _
  rcases Nat.eq_zero_or_pos r with rfl | h
  · rw [duties_cell]; exact if_neg fun h => h rfl
  · exact duties_later X _ r h

omit [FloatOps F] in
/-- A cell of a transfer that takes place has one duty. -/
theorem duties_xfer (b : Fin 2) (i s : Fin 4) (hs : s ≠ zOf c) : (Rd X).duties (cell c (some (b, i, s))) 0 = {(0, 0)} := by
  rw [duties_cell]; exact if_pos hs

/-- Six devices signal a barrier cell. -/
theorem card_sigs : ∀ c : Dev nD, (sigs c).card = 6 := by decide +kernel

omit [FloatOps F] in
/-- The barrier expects six units. -/
theorem expect_bar : (Rd X).expect (barCell c) 0 = 6 := by
  unfold Schedule.expect Schedule.amountOf
  rw [duties_cell, Finset.sum_congr rfl fun d _ => amount_cell X c none d, Finset.sum_const, smul_eq_mul]
  exact (congrArg (· * 1) (card_sigs c)).trans rfl
omit [FloatOps F] in
/-- A cell of a transfer that takes place expects the credit of one block. -/
theorem expect_xfer (b : Fin 2) (i s : Fin 4) (hs : s ≠ zOf c) : (Rd X).expect (cell c (some (b, i, s))) 0 = N := by
  unfold Schedule.expect Schedule.amountOf; rw [duties_xfer X c b i s hs, Finset.sum_singleton, amount_cell]; rfl

omit [FloatOps F] in
/-- All the barrier round hands a device: the blocks it is to fill, all of them. -/
theorem rest_bar : bigSep ((Rd X).duties (barCell c) 0 \ ∅) (fun d => (Rd X).payload (barCell c) 0 d)
    = iprop(bigSep (others c) (destPts (F := F) c 0) ∗ bigSep (others c) (destPts (F := F) c 1)
        ∗ bigSep (others c) (destPts (F := F) c 2) ∗ bigSep (others c) (destPts (F := F) c 3)) := by
  have hsig : ∀ c : Dev nD, sigs c = (others c).image (fun s => ((0 : Fin 4), s)) ∪ ({(1, zOf c), (2, zOf c), (3, zOf c)} : Finset DutyName) := by
    decide +kernel
  have hdis : ∀ c : Dev nD, Disjoint ((others c).image (fun s => ((0 : Fin 4), s))) ({(1, zOf c), (2, zOf c), (3, zOf c)} : Finset DutyName) := by
    decide +kernel
  have hpay (d : DutyName) : (Rd X).payload (barCell c) 0 d = barPay c d := payload_cell X c none d
  have h1 : ∀ z : Fin 4, ((1, z) : DutyName) ∉ ({(2, z), (3, z)} : Finset DutyName) := by decide
  have h2 : ∀ z : Fin 4, ((2, z) : DutyName) ∉ ({(3, z)} : Finset DutyName) := by decide
  rw [Finset.sdiff_empty, duties_cell]
  show bigSep (sigs c) _ = _
  rw [hsig, BI.bigSep_union (hdis c), bigSep_image_of_injOn (fun s _ s' _ h => congrArg Prod.snd h),
    BI.bigSep_insert (h1 _), BI.bigSep_insert (h2 _), bigSep_singleton]
  simp only [hpay]
  rfl

omit [FloatOps F] in
/-- Before it is paid, what such a cell still holds for its owner is its one payload. -/
theorem rest_xfer (b : Fin 2) (i s : Fin 4) (hs : s ≠ zOf c) :
    bigSep ((Rd X).duties (cell c (some (b, i, s))) 0 \ ∅) (fun d => (Rd X).payload (cell c (some (b, i, s))) 0 d)
      = if b = 0 then sendPay X c i s else recvPay X c i s := by
  rw [Finset.sdiff_empty, duties_xfer X c b i s hs, bigSep_singleton, payload_cell]; rfl

end Facts

end Cert.GatherProof
end
-- ==== Proof.Debt.lean ====
/-
# What a device owes, and why it may wait

A device owes its six signals and all its transfers from the start. Cells have levels: staging and send cells 0, the
barrier 1, the receives along `z` 2, the receives from the mates 3. A device waits at a cell only while everything it
still owes lies above that cell.
-/
module

public import proofs.«01_k».proof.Proof.Schedule

@[expose] public section

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

/-! ## Debts -/

/-- The unit signal `(i, s)` of `c` owes its receiver. -/
def sigDebt (c : Dev nD) (i s : Fin 4) : 𝕋 := tallyAt (barCell (peer i s c)) () 1
/-- The block transfer `(i, s)` of `c` owes its receiver. -/
def xferDebt (c : Dev nD) (i s : Fin 4) : 𝕋 := tallyAt (rCell (peer i s c) i (rslot i s c)) () N

/-- The signals along `z` to the slots of `S`. -/
def zSigs (c : Dev nD) (S : Finset (Fin 4)) : 𝕋 := ∑ s ∈ S, sigDebt c 0 s
/-- The transfers along `z` to the slots of `S`. -/
def zDebt (c : Dev nD) (S : Finset (Fin 4)) : 𝕋 := ∑ s ∈ S, xferDebt c 0 s
/-- The transfers of the chunks of `S` to the three mates. -/
def mDebt (c : Dev nD) (S : Finset (Fin 4)) : 𝕋 := ∑ s ∈ S, (xferDebt c 3 s + xferDebt c 2 s + xferDebt c 1 s)

/-- After the barrier a device owes its transfers. -/
def Oxfer (c : Dev nD) : 𝕋 := mDebt c (others c) + zDebt c (others c)
/-- Before its first signal to a mate it also owes the three mates. -/
def Omate (c : Dev nD) : 𝕋 := Oxfer c + sigDebt c 3 (zOf c) + sigDebt c 2 (zOf c) + sigDebt c 1 (zOf c)
/-- All a device owes. -/
def Oall (c : Dev nD) : 𝕋 := Omate c + zSigs c (others c)

/-- Signals to no slot are no debt. -/
theorem zSigs_empty (c : Dev nD) : zSigs c ∅ = 0 := Finset.sum_empty
/-- Transfers along `z` for no slot are no debt. -/
theorem zDebt_empty (c : Dev nD) : zDebt c ∅ = 0 := Finset.sum_empty
/-- Transfers to the mates for no slot are no debt. -/
theorem mDebt_empty (c : Dev nD) : mDebt c ∅ = 0 := Finset.sum_empty

/-- One signal along `z` split off. -/
theorem zSigs_split {c : Dev nD} {S : Finset (Fin 4)} {s : Fin 4} (hs : s ∈ S) (O : 𝕋) :
    O + zSigs c S = (O + zSigs c (S.erase s)) + sigDebt c 0 s := by
  unfold zSigs; rw [add_assoc, Finset.sum_erase_add S _ hs]
/-- One transfer along `z` split off. -/
theorem zDebt_split {c : Dev nD} {S : Finset (Fin 4)} {s : Fin 4} (hs : s ∈ S) (O : 𝕋) :
    O + zDebt c S = (O + zDebt c (S.erase s)) + xferDebt c 0 s := by
  unfold zDebt; rw [add_assoc, Finset.sum_erase_add S _ hs]
/-- One chunk's transfers to the mates split off. -/
theorem mDebt_split {c : Dev nD} {S : Finset (Fin 4)} {s : Fin 4} (hs : s ∈ S) :
    mDebt c S = mDebt c (S.erase s) + xferDebt c 3 s + xferDebt c 2 s + xferDebt c 1 s := by
  unfold mDebt; rw [← Finset.sum_erase_add S _ hs, add_assoc, add_assoc, add_assoc]

/-! ## Levels -/

/-- Every cell of a TensorCore has a level. -/
def L (g : GSem nD τ sig) : Finset Unit := if g.1.2 = .tc then {()} else ∅
/-- The level of a named cell. -/
def lvIx : CellIx → ℕ
  | none => 1
  | some (b, i, _) => if b = 0 then 0 else if i = 0 then 2 else 3
/-- The level of a cell; those outside the protocol are at the bottom. -/
def lv (g : GSem nD τ sig) (_ : Unit) : ℕ := ((dec g.2).map lvIx).getD 0

/-- A counter of another core has no level. -/
theorem L_of_ne (g : GSem nD τ sig) (h : g.1.2 ≠ .tc) : L g = ∅ := if_neg h
/-- Every counter of a device's tensor core has one level. -/
theorem L_tc (c : Dev nD) (sm : SemLoc sig) : L ((c : Thread nD τ), sm) = {()} := if_pos rfl
/-- The level of a cell is that of its index. -/
theorem lv_cell (c : Dev nD) (k : CellIx) (u : Unit) : lv (cell c k) u = lvIx k := by
  unfold lv; rw [dec_csem]; rfl

/-- Every cell owed in `O` is a TensorCore's, above level `n`. -/
def Above (n : ℕ) (O : 𝕋) : Prop := ∀ g u, 0 < O g u → g.1.2 = .tc ∧ n < lv g u

/-- An empty debt lies above every level. -/
theorem Above.zero (n : ℕ) : Above n 0 := fun _ _ h => absurd h (lt_irrefl 0)
/-- Two debts above a level are together above it. -/
theorem Above.add {n : ℕ} {O O' : 𝕋} (h : Above n O) (h' : Above n O') : Above n (O + O') := fun g u hp => by
  rw [Pi.add_apply, Finsupp.add_apply] at hp
  rcases Nat.eq_zero_or_pos (O g u) with h0 | h0
  · exact h' g u (by omega)
  · exact h g u h0
/-- Debts above a level for every slot are together above it. -/
theorem Above.sum {n : ℕ} {S : Finset (Fin 4)} {f : Fin 4 → 𝕋} (h : ∀ s, Above n (f s)) : Above n (∑ s ∈ S, f s) := by
  induction S using Finset.induction_on with
  | empty => rw [Finset.sum_empty]; exact Above.zero n
  | insert a S ha ih => rw [Finset.sum_insert ha]; exact (h a).add ih
/-- A debt at one cell lies above every level lower than the cell's. -/
theorem Above.tally {n : ℕ} (c : Dev nD) (k : CellIx) (m : ℕ) (h : n < lvIx k) : Above n (tallyAt (cell c k) () m) := by
  intro g u hp
  rw [tallyAt_apply] at hp
  by_cases hg : g = cell c k ∧ u = ()
  · rw [hg.1, lv_cell]; exact ⟨rfl, h⟩
  · rw [if_neg hg] at hp; exact absurd hp (lt_irrefl 0)

/-- The transfers to the mates lie above level 2. -/
theorem above_mates (c : Dev nD) (S : Finset (Fin 4)) : Above 2 (mDebt c S) :=
  Above.sum fun s => ((Above.tally _ _ _ (show 2 < 3 by decide)).add (Above.tally _ _ _ (show 2 < 3 by decide))).add (Above.tally _ _ _ (show 2 < 3 by decide))
/-- All transfers lie above level 1. -/
theorem above_xfers (c : Dev nD) : Above 1 (Oxfer c) :=
  Above.add (fun g u h => ⟨(above_mates c _ g u h).1, Nat.lt_of_succ_lt (above_mates c _ g u h).2⟩)
    (Above.sum fun s => Above.tally _ _ _ (show 1 < 2 by decide))
/-- A signal lies above level 0. -/
theorem above_sig (c : Dev nD) (i s : Fin 4) : Above 0 (sigDebt c i s) := Above.tally _ none 1 Nat.zero_lt_one
/-- Everything owed lies above level 0. -/
theorem above_all (c : Dev nD) : Above 0 (Oall c) := by
  have hx : Above 0 (Oxfer c) := fun g u h => ⟨(above_xfers c g u h).1, Nat.lt_of_succ_lt (above_xfers c g u h).2⟩
  exact (((hx.add (above_sig _ _ _)).add (above_sig _ _ _)).add (above_sig _ _ _)).add (Above.sum fun s => above_sig _ _ _)

omit [FloatOps F] in
/-- A device may wait at a cell no higher than `n` while all it owes lies above `n`. -/
theorem mayWait_above (c : Dev nD) (sm : SemLoc sig) {n : ℕ} {O : 𝕋} (hO : Above n O) (hsm : lv ((c : Thread nD τ), sm) () ≤ n) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u h => by unfold L; rw [if_pos (hO g u h).1]; exact Finset.mem_singleton_self _)
    (fun p hp => by rw [Finset.mem_singleton.mp hp]; exact hsm)
    (fun g u h => (hO g u h).2)

/-! ## The launch's credit -/

/-- What a device is owed: six signals, and every transfer it takes part in. -/
def Tall (c : Dev nD) : 𝕋 := tallyAt (barCell c) () 6 + ∑ x ∈ xfers c, tallyAt (rCell c x.1 x.2) () N

/-- A device signals the other slots of its quarter and its three mates. -/
theorem sigs_eq : ∀ c : Dev nD, sigs c = (others c).image (fun s => ((0 : Fin 4), s)) ∪ ({(1, zOf c), (2, zOf c), (3, zOf c)} : Finset DutyName) := by
  decide +kernel
/-- The signals along `z` and those to the mates are different ones. -/
theorem sigs_disjoint : ∀ c : Dev nD, Disjoint ((others c).image (fun s => ((0 : Fin 4), s))) ({(1, zOf c), (2, zOf c), (3, zOf c)} : Finset DutyName) := by
  decide +kernel
/-- A device makes one transfer per direction and other slot. -/
theorem xfers_eq : ∀ c : Dev nD, xfers c = Finset.univ ×ˢ others c := by decide +kernel

/-- The debt as one sum over the signals and one over the transfers. -/
theorem Oall_eq (c : Dev nD) : Oall c = (∑ x ∈ sigs c, sigDebt c x.1 x.2) + ∑ x ∈ xfers c, xferDebt c x.1 x.2 := by
  have h1 : ∀ z : Fin 4, ((1, z) : DutyName) ∉ ({(2, z), (3, z)} : Finset DutyName) := by decide
  have h2 : ∀ z : Fin 4, ((2, z) : DutyName) ∉ ({(3, z)} : Finset DutyName) := by decide
  rw [sigs_eq, Finset.sum_union (sigs_disjoint c), Finset.sum_image (fun s _ s' _ h => congrArg Prod.snd h),
    Finset.sum_insert (h1 _), Finset.sum_insert (h2 _), Finset.sum_singleton, xfers_eq, Finset.sum_product, Fin.sum_univ_four]
  unfold Oall Omate Oxfer mDebt zDebt zSigs
  rw [Finset.sum_add_distrib, Finset.sum_add_distrib]
  dsimp only
  ac_rfl

/-- A sum over all transfers or signals of all devices, each seen from its receiver. -/
theorem sum_flip {V : Dev nD → Finset (Fin 4 × Fin 4)} (hV : ∀ c i s, ((i, rslot i s c) ∈ V (peer i s c)) ↔ (i, s) ∈ V c)
    (f : Dev nD → Fin 4 → Fin 4 → 𝕋) :
    (∑ c, ∑ x ∈ V c, f (peer x.1 x.2 c) x.1 (rslot x.1 x.2 c)) = ∑ c, ∑ x ∈ V c, f c x.1 x.2 := by
  have h (g : Dev nD → Fin 4 → Fin 4 → 𝕋) : (∑ c, ∑ x ∈ V c, g c x.1 x.2)
      = ∑ y : Dev nD × Fin 4 × Fin 4, if y.2 ∈ V y.1 then g y.1 y.2.1 y.2.2 else 0 := by
    rw [Fintype.sum_prod_type]
    refine Finset.sum_congr rfl fun c _ => ?_
    rw [← Finset.sum_filter]
    refine Finset.sum_congr ?_ fun _ _ => rfl
    ext x; simp
  rw [h (fun c i s => f (peer i s c) i (rslot i s c)), h f]
  refine Fintype.sum_equiv flip _ _ fun y => ?_
  obtain ⟨c, i, s⟩ := y
  show (if (i, s) ∈ V c then _ else _) = if (i, rslot i s c) ∈ V (peer i s c) then f (peer i s c) i (rslot i s c) else 0
  exact if_congr (hV c i s).symm rfl rfl

/-- A device signals in a direction exactly when its partner signals back. -/
theorem sigs_flip : ∀ (c : Dev nD) (i s : Fin 4), ((i, rslot i s c) ∈ sigs (peer i s c)) ↔ (i, s) ∈ sigs c := by decide +kernel
/-- A device transfers in a direction exactly when its partner transfers back. -/
theorem xfers_flip : ∀ (c : Dev nD) (i s : Fin 4), ((i, rslot i s c) ∈ xfers (peer i s c)) ↔ (i, s) ∈ xfers c := by decide +kernel

/-- Together the devices owe what they are owed. -/
theorem sum_debts : (∑ c, Oall c) = ∑ c, Tall c := by
  have hs : (∑ c, ∑ x ∈ sigs c, sigDebt c x.1 x.2) = ∑ c, (tallyAt (barCell c) () 6 : 𝕋) := by
    refine (sum_flip sigs_flip fun d _ _ => tallyAt (barCell d) () 1).trans (Finset.sum_congr rfl fun c _ => ?_)
    have h6 : ∀ n : ℕ, (∑ _x ∈ Finset.range n, (tallyAt (barCell c) () 1 : 𝕋)) = tallyAt (barCell c) () n := by
      intro n
      induction n with
      | zero => rw [Finset.range_zero, Finset.sum_empty, tallyAt_zero]
      | succ n ih => rw [Finset.sum_range_succ, ih, ← tallyAt_add]
    have h := h6 6
    rw [Finset.sum_const, Finset.card_range] at h
    rw [Finset.sum_const, card_sigs]
    exact h
  have hx : (∑ c, ∑ x ∈ xfers c, xferDebt c x.1 x.2) = ∑ c, ∑ x ∈ xfers c, (tallyAt (rCell c x.1 x.2) () N : 𝕋) :=
    sum_flip xfers_flip fun d i s => tallyAt (rCell d i s) () N
  rw [Finset.sum_congr rfl fun c _ => Oall_eq c, Finset.sum_add_distrib, hs, hx, ← Finset.sum_add_distrib]
  rfl

end Cert.GatherProof
end
-- ==== Proof.Steps.lean ====
/-
# One step at a time

The rules for the kernel's operations — a signal, a transfer, a wait, a copy out of the input block — and the rule for a
conditional section that handles one of a set of slots.
-/
module

public import proofs.«01_k».proof.Proof.Debt

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

/-- The kernel has no loop variants. -/
abbrev 𝒱₀ : Variants := Variants.none

/-- The weakest precondition of a piece of the kernel on device `c`. -/
abbrev wpc (c : Dev nD) {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- Reading the device's own index. -/
theorem wpc_deviceId (c : Dev nD) {α : Type} {Q : α → sProp (MT nD τ sig Unit (Elt F) ℕ UU ℕ)}
    {k : Dev nD → Prog (TpuEff nD τ sig (Elt F) Λ₀ .tc) α} : wpc c (.op .deviceId k) Q = wpc c (k c) Q := wp_deviceId 𝒱₀ (c : Thread nD τ) none Set.univ

/-! ## What a device holds -/

/-- What every device knows: the invariants of all cells, that all first rounds have begun, and the levels. -/
def env (X : Inputs F) (K : Dev nD × CellIx → ℕ) : sProp 𝕄 :=
  iprop((bigSep Finset.univ fun x : Dev nD × CellIx => cellInv ER (Rd X) (K x) (cell x.1 x.2))
    ∗ (bigSep Finset.univ fun x : Dev nD × CellIx => reached ER (cell x.1 x.2) 0) ∗ levAts L lv)

omit [FloatOps F] in
/-- The environment may be used any number of times. -/
instance env_persistent (X : Inputs F) (K : Dev nD × CellIx → ℕ) : BI.Persistent (env X K) := by unfold env; infer_instance

omit [FloatOps F] in
/-- The environment has the invariant of every cell. -/
theorem env_inv (X : Inputs F) (K : Dev nD × CellIx → ℕ) (c : Dev nD) (k : CellIx) :
    env X K ⊢ cellInv ER (Rd X) (K (c, k)) (cell c k) := by
  unfold env
  iintro ⟨H, -, -⟩
  iapply (show bigSep Finset.univ (fun x : Dev nD × CellIx => cellInv ER (Rd X) (K x) (cell x.1 x.2))
    ⊢ cellInv ER (Rd X) (K (c, k)) (cell c k) from bigSep_elim (Finset.mem_univ (c, k)))
  iexact H
omit [FloatOps F] in
/-- The environment knows that every cell has reached its round. -/
theorem env_reached (X : Inputs F) (K : Dev nD × CellIx → ℕ) (c : Dev nD) (k : CellIx) :
    env X K ⊢ reached ER (cell c k) 0 := by
  unfold env
  iintro ⟨-, H, -⟩
  iapply (show bigSep Finset.univ (fun x : Dev nD × CellIx => (reached ER (cell x.1 x.2) 0 : sProp 𝕄))
    ⊢ reached ER (cell c k) 0 from bigSep_elim (Finset.mem_univ (c, k)))
  iexact H
omit [FloatOps F] in
/-- The environment knows all levels. -/
theorem env_lev (X : Inputs F) (K : Dev nD × CellIx → ℕ) : env X K ⊢ levAts L lv := by
  unfold env
  iintro ⟨-, -, H⟩
  iexact H
omit [FloatOps F] in
/-- A device may wait at a cell no higher than `n` while all it owes lies above `n`. -/
theorem env_mayWait (X : Inputs F) (K : Dev nD × CellIx → ℕ) (c : Dev nD) (k : CellIx) {n : ℕ} {O : 𝕋} (hO : Above n O) (hk : lvIx k ≤ n) :
    env X K ⊢ MayWait (c : Thread nD τ) (csem k) () O := by
  exact (env_lev X K).trans (mayWait_above c (csem k) hO ((le_of_eq (lv_cell c k ())).trans hk))

/-- The debt, whatever waits went before. -/
def owesAny (c : Dev nD) (O : 𝕋) : sProp 𝕄 := iprop(∃ W, owes (c : Thread nD τ) O W)

/-- The tokens of the two duties of transfer `(i, s)`. -/
def sendReady (c : Dev nD) (i s : Fin 4) : sProp 𝕄 :=
  iprop(dutyTok ER (sCell c i s) 0 (0, 0) ∗ dutyTok ER (rCell (peer i s c) i (rslot i s c)) 0 (0, 0))
/-- Transfer `(i, s)` under way: the credit at its send semaphore. -/
def sendSent (c : Dev nD) (i s : Fin 4) : sProp 𝕄 := cred (tallyAt (sCell c i s) () N)
/-- The right to wait for the arrival `(i, s)`. -/
def recvReady (c : Dev nD) (i s : Fin 4) : sProp 𝕄 := iprop(cred (tallyAt (rCell c i s) () N) ∗ atPos ER (rCell c i s) 0 ∅ 0)
/-- The token of signal `(i, s)`. -/
def sigTok (c : Dev nD) (i s : Fin 4) : sProp 𝕄 := dutyTok ER (barCell (peer i s c)) 0 (i, rslot i s c)
/-- The block that arrival `(i, s)` fills at `c`, with any contents. -/
def landPts (c : Dev nD) (i s : Fin 4) : sProp 𝕄 := iprop(∃ f, blkPts (F := F) c s (mateQ i (qOf c)) fullShare f)
/-- The staged input block. -/
def xPts (X : Inputs F) (c : Dev nD) : sProp 𝕄 := (((c : Thread nD τ).loc cc0_stg0_0) ↦{fullShare} (X c))

omit [FloatOps F] in
/-- The block the partner's transfer fills here is the one it was promised. -/
theorem dest_land (c : Dev nD) (i s : Fin 4) : destPts (F := F) (peer i s c) i (rslot i s c) = landPts c i s := by
  unfold destPts landPts
  rw [peer_peer, rslot_peer, qOf_peer]

/-! ## The steps -/

section Steps
variable (X : Inputs F) (K : Dev nD × CellIx → ℕ) (c : Dev nD)
variable {α : Type} {Q : α → sProp (MT nD τ sig Unit (Elt F) ℕ UU ℕ)}
variable {k : PUnit.{1} → Prog (TpuEff nD τ sig (Elt F) Λ₀ .tc) α}

/-- A signal: pays its unit and hands over its payload. -/
theorem step_signal {n : Dev nD} {i s : Fin 4} (hn : n.val = (peer i s c).val) (hm : (i, s) ∈ sigs c) (O : 𝕋) {w : ℤ} (hw : w = ((1 : ℕ) : ℤ)) :
    iprop(env X K ∗ owesAny c (O + sigDebt c i s) ∗ sigTok c i s ∗ barPay (F := F) (peer i s c) (i, rslot i s c)
        ∗ (owesAny c O -∗ wpc c (k ⟨⟩) Q))
      ⊢ wpc c (.op (.semSignal (Dev.tc n) barS w) k) Q := by
  subst hw
  obtain rfl : n = peer i s c := Fin.ext hn
  unfold owesAny sigTok
  iintro ⟨#HE, ⟨%W, HO⟩, Ht, Hp, HK⟩
  iapply (Rounds.wp_signal 𝒱₀ ER (Rd X) (c : Thread nD τ) none (dst := (peer i s c : Thread nD τ)) (κ := K (peer i s c, none))
      (d := (i, rslot i s c)) (by rw [duties_cell X (peer i s c) none]; exact (sigs_flip c i s).mpr hm)
      (amount_cell X (peer i s c) none _) () O rfl) $$ [HO Ht Hp]
  · isplitr; · iapply (env_inv X K (peer i s c) none); iexact HE
    isplitl [HO]; · iexact HO
    isplitl [Ht]; · iexact Ht
    isplitl [Hp]; · rw [payload_cell X (peer i s c) none]; unfold payOf; iexact Hp
    iapply (env_reached X K (peer i s c) none); iexact HE
  iintro HO
  iapply HK
  iexists W
  iexact HO

/-- The barrier wait: the six partners' blocks come in. -/
theorem step_barrier {O : 𝕋} (hO : Above 1 O) {w : ℤ} (hw : w = ((6 : ℕ) : ℤ)) :
    iprop(env X K ∗ owesAny c O ∗ cred (tallyAt (barCell c) () 6) ∗ atPos ER (barCell c) 0 ∅ 0
        ∗ ((owesAny c O ∗ atPos ER (barCell c) 1 ∅ 0 ∗ bigSep (others c) (destPts (F := F) c 0) ∗ bigSep (others c) (destPts (F := F) c 1)
            ∗ bigSep (others c) (destPts (F := F) c 2) ∗ bigSep (others c) (destPts (F := F) c 3)) -∗ wpc c (k ⟨⟩) Q))
      ⊢ wpc c (.op (.semWait barS w) k) Q := by
  subst hw
  unfold owesAny
  iintro ⟨#HE, ⟨%W, HO⟩, Hc, Ha, HK⟩
  iapply (Rounds.wp_wait_rest_token 𝒱₀ ER (Rd X) (c : Thread nD τ) none (κ := K (c, none))
      (wpE_semWait_eq 𝒱₀ (c : Thread nD τ) none Set.univ) (Set.mem_univ _) () (O := O) (W := W) (R := 0) (m := 0) (T := ∅)
      ((Nat.zero_add 6).trans (expect_bar X c).symm)) $$ [Hc HO Ha]
  · isplitr; · iapply (env_inv X K c none); iexact HE
    isplitl [Hc]; · iexact Hc
    isplitl [HO]; · iexact HO
    isplitr
    · iapply (env_mayWait X K c none hO le_rfl); iexact HE
    iexact Ha
  iintro ⟨HO, Ha, -, Hp⟩
  ihave Hp' := (Entails.of_eq (rest_bar X c)) $$ Hp
  iapply HK
  isplitl [HO]; · iexists _; iexact HO
  isplitl [Ha]; · iexact Ha
  iexact Hp'

/-- A wait at a transfer's send or receive semaphore. -/
theorem step_wait {b : Fin 2} {i s : Fin 4} (hs : zOf c ≠ s) {O : 𝕋} {n : ℕ} (hO : Above n O) (hl : lvIx (some (b, i, s)) ≤ n)
    {sm : DmaSem sig} (hsm : sm = xsem b i s) {v w : Memref sig .tc .vmem S256x512 .bf16} (hcr : w.view.dmaCredit = N)
    {hv : v.view.WordExact} {hw : w.view.WordExact} :
    iprop(env X K ∗ owesAny c O ∗ cred (tallyAt (cell c (some (b, i, s))) () N) ∗ atPos ER (cell c (some (b, i, s))) 0 ∅ 0
        ∗ ((owesAny c O ∗ atPos ER (cell c (some (b, i, s))) 1 ∅ 0 ∗ (if b = 0 then sendPay X c i s else recvPay X c i s)) -∗ wpc c (k ⟨⟩) Q))
      ⊢ wpc c (.op (.waitDma2 sm v w hv hw) k) Q := by
  subst hsm
  unfold owesAny
  iintro ⟨#HE, ⟨%W, HO⟩, Hc, Ha, HK⟩
  iapply (Rounds.wp_wait_rest_token 𝒱₀ ER (Rd X) (c : Thread nD τ) none (κ := K (c, some (b, i, s)))
      (wpE_waitDma2_eq 𝒱₀ (c : Thread nD τ) none Set.univ) (Set.mem_univ _) () (O := O) (W := W) (R := 0) (m := 0) (T := ∅)
      (by rw [Nat.zero_add, hcr]; exact (expect_xfer X c b i s hs.symm).symm)) $$ [Hc HO Ha]
  · isplitr; · iapply (env_inv X K c (some (b, i, s))); iexact HE
    isplitl [Hc]; · rw [hcr]; iexact Hc
    isplitl [HO]; · iexact HO
    isplitr
    · iapply (env_mayWait X K c (some (b, i, s)) hO hl); iexact HE
    iexact Ha
  iintro ⟨HO, Ha, -, Hp⟩
  ihave Hp' := (Entails.of_eq (rest_xfer X c b i s hs.symm)) $$ Hp
  iapply HK
  isplitl [HO]; · iexists _; iexact HO
  isplitl [Ha]; · iexact Ha
  iexact Hp'

/-- The transfer rule at the protocol's cells. -/
theorem send_rule {i s : Fin 4} (hs : zOf c ≠ s) (O : 𝕋) (W : Waits sig Unit) (g : Buf (Elt F) ((peer i s c : Thread nD τ).loc cc0_stg1_0))
    {hsc : (blkM (rslot i s c) (qOf c)).view.ref.isScScratch = false} {hsrc : (blkM (rslot i s c) (qOf c)).view.WordExact}
    {hdst : (blkM (rslot i s c) (qOf c)).view.WordExact}
    {hsem : DmaTarget.Typed .vmem (.dma (xsem 1 i (rslot i s c)))
      (.remote (Dev.tc (peer i s c) : Thread nD τ) (blkM (rslot i s c) (qOf c)) (.dma (xsem 0 i s)) hsc)} :
    iprop(cellInv ER (Rd X) (K (c, some (0, i, s))) (sCell c i s)
        ∗ cellInv ER (Rd X) (K (peer i s c, some (1, i, rslot i s c))) (rCell (peer i s c) i (rslot i s c))
        ∗ ((blkM (rslot i s c) (qOf c)).view.loc (c : Thread nD τ) ↦[(blkM (rslot i s c) (qOf c)).view.set]{xshare i s} (outAt X c))
        ∗ ((blkM (rslot i s c) (qOf c)).view.loc (peer i s c : Thread nD τ) ↦[(blkM (rslot i s c) (qOf c)).view.set]{fullShare} g)
        ∗ owes (c : Thread nD τ) (O + xferDebt c i s) W
        ∗ dutyTok ER (sCell c i s) 0 (0, 0) ∗ reached ER (sCell c i s) 0
        ∗ dutyTok ER (rCell (peer i s c) i (rslot i s c)) 0 (0, 0) ∗ reached ER (rCell (peer i s c) i (rslot i s c)) 0)
      ⊢ iprop(((cred (tallyAt (sCell c i s) () N) ∗ owes (c : Thread nD τ) O W) -∗ wpc c (k ⟨⟩) Q)
        -∗ wpc c (.op (.enqueueDma (blkM (rslot i s c) (qOf c)) (.remote (Dev.tc (peer i s c) : Thread nD τ) (blkM (rslot i s c) (qOf c))
            (.dma (xsem 0 i s)) hsc) (.dma (xsem 1 i (rslot i s c))) hsrc hdst hsem) k) Q) := by
  have hp1 : ((blkM (rslot i s c) (qOf c)).view.loc (c : Thread nD τ) ↦[(blkM (rslot i s c) (qOf c)).view.set]{xshare i s} (outAt X c) : sProp 𝕄)
      ⊢ (Rd X).payload (sCell c i s) 0 (0, 0) := by
    rw [payload_cell, blkM_set]; exact BI.Entails.refl _
  have hp2 : (((blkM (rslot i s c) (qOf c)).view.loc (peer i s c : Thread nD τ))
        ↦[(blkM (rslot i s c) (qOf c)).view.set]{fullShare} ((blkM (rslot i s c) (qOf c)).view.write (Elt F) g
          ((blkM (rslot i s c) (qOf c)).view.read (Elt F) (outAt X c)) Finset.univ) : sProp 𝕄)
      ⊢ (Rd X).payload (rCell (peer i s c) i (rslot i s c)) 0 (0, 0) := by
    rw [landed_pts X c i s hs.symm g, payload_cell]
    show _ ⊢ recvPay X (peer i s c) i (rslot i s c)
    unfold recvPay; rw [mateQ_peer]
  have hd1 : ((0, 0) : DutyName) ∈ (Rd X).duties (sCell c i s) 0 := by
    rw [duties_xfer X c 0 i s hs.symm]; exact Finset.mem_singleton_self _
  have hd2 : ((0, 0) : DutyName) ∈ (Rd X).duties (rCell (peer i s c) i (rslot i s c)) 0 := by
    rw [duties_xfer X (peer i s c) 1 i _ ((rslot_ne c i s).mpr hs.symm)]; exact Finset.mem_singleton_self _
  have hO : O + xferDebt c i s = O + tallyAt (rCell (peer i s c) i (rslot i s c)) () N := by unfold xferDebt; rfl
  have h := Rounds.wp_send_pointsTo (defs := defs₀ (F := F)) (Γ := PendingWaitsCtx.empty) (Es := Set.univ) 𝒱₀ ER (Rd X) (c : Thread nD τ) none (κ₁ := K (c, some (0, i, s)))
      (κ₂ := K (peer i s c, some (1, i, rslot i s c))) (r₁ := 0) (r₂ := 0) (d₁ := (0, 0)) (d₂ := (0, 0)) (fd := g)
      hd1 hd2 () () N (credit_slice _ _) (amount_xfer X c 0 i s _) (amount_xfer X (peer i s c) 1 i (rslot i s c) _) O hO (W := W)
      hp1 hp2 (Q := Q) (k := k) (hsc := hsc) (hsrc := hsrc) (hdst := hdst) (hsem := hsem)
  exact h

/-- A transfer: a share of the block goes out, the partner's block is filled. -/
theorem step_send {n : Dev nD} {i s : Fin 4} (hn : n.val = (peer i s c).val) (hs : zOf c ≠ s) (O : 𝕋)
    {v w : Memref sig .tc .vmem S256x512 .bf16} (hv : v = blkM (rslot i s c) (qOf c)) (hw : w = blkM (rslot i s c) (qOf c))
    {sS sR : DmaSem sig} (hS : sS = xsem 0 i s) (hR : sR = xsem 1 i (rslot i s c))
    {hsc : w.view.ref.isScScratch = false} {hsrc : v.view.WordExact} {hdst : w.view.WordExact}
    {hsem : DmaTarget.Typed .vmem (.dma sR) (.remote (Dev.tc n : Thread nD τ) w (.dma sS) hsc)} :
    iprop(env X K ∗ owesAny c (O + xferDebt c i s) ∗ sendReady c i s ∗ destPts (F := F) c i s ∗ sendPay X c i s
        ∗ ((owesAny c O ∗ sendSent c i s) -∗ wpc c (k ⟨⟩) Q))
      ⊢ wpc c (.op (.enqueueDma v (.remote (Dev.tc n : Thread nD τ) w (.dma sS) hsc) (.dma sR) hsrc hdst hsem) k) Q := by
  obtain rfl : n = peer i s c := Fin.ext hn
  subst hv hw hS hR
  unfold owesAny sendReady destPts sendPay blkPts
  iintro ⟨#HE, ⟨%W, HO⟩, ⟨Ht1, Ht2⟩, ⟨%g, Hd⟩, Hs, HK⟩
  iapply (send_rule X K c hs O W g) $$ [HO Ht1 Ht2 Hd Hs]
  · isplitr; · iapply (env_inv X K c (some (0, i, s))); iexact HE
    isplitr; · iapply (env_inv X K (peer i s c) (some (1, i, rslot i s c))); iexact HE
    isplitl [Hs]; · rw [blkM_set]; iexact Hs
    isplitl [Hd]; · rw [blkM_set]; iexact Hd
    isplitl [HO]; · iexact HO
    isplitl [Ht1]; · iexact Ht1
    isplitr; · iapply (env_reached X K c (some (0, i, s))); iexact HE
    isplitl [Ht2]; · iexact Ht2
    iapply (env_reached X K (peer i s c) (some (1, i, rslot i s c))); iexact HE
  iintro ⟨Hc, HO⟩
  iapply HK
  isplitl [HO]; · iexists W; iexact HO
  unfold sendSent; iexact Hc

/-- A copy: quarter `j` of the input block goes to its place in the device's own chunk. -/
theorem step_store {j : Fin 4} {o1 : Fin 2 → ℕ} {o2 : Fin 2 → ℕ} (h1 : o1 = inOff j) (h2 : o2 = blkOff (zOf c) j)
    {i1 : ∀ a, o1 a + S256x512.size a ≤ S1024x512.size a} {i2 : ∀ a, o2 a + S256x512.size a ≤ S4096x512.size a}
    {l1 : xM.view.LoadsAt (Rect.unit (s := S1024x512) o1 S256x512.size i1).toLoadRect}
    {l2 : oM.view.LoadsAt (Rect.unit (s := S4096x512) o2 S256x512.size i2).toLoadRect} (hc : S256x512.ShapeCasts S256x512)
    {hx : (oM.access (Rect.unit (s := S4096x512) o2 S256x512.size i2)).Stores Finset.univ}
    {hm : (Finset.univ : Finset (Rect.unit (s := S4096x512) o2 S256x512.size i2).shape.Idx) = Finset.univ
      ∨ ∀ a, (Rect.unit (s := S4096x512) o2 S256x512.size i2).stride a = 1} :
    iprop(xPts X c ∗ (∃ g, blkPts c (zOf c) j fullShare g) ∗ ((xPts X c ∗ blkPts c (zOf c) j fullShare (outAt X c)) -∗ wpc c (k ⟨⟩) Q))
      ⊢ wpc c (.op (.load xM (Rect.unit (s := S1024x512) o1 S256x512.size i1).toLoadRect l1) fun v =>
          .op (.load oM (Rect.unit (s := S4096x512) o2 S256x512.size i2).toLoadRect l2) fun _ =>
          .op (.store oM (Rect.unit (s := S4096x512) o2 S256x512.size i2) (shapeCast S256x512 v hc) Finset.univ hx hm) k) Q := by
  subst h1 h2
  unfold xPts blkPts
  have hl1 := wp_load_rect (defs := defs₀ (F := F)) (Γ := PendingWaitsCtx.empty) 𝒱₀ (c : Thread nD τ) none Set.univ (m := xM) (r := inR j)
    (S := Finset.univ) (q := fullShare) (f := X c) (Q := Q) (hl := l1) (k := fun v =>
      .op (.load oM (blkR (zOf c) j).toLoadRect l2) fun _ =>
      .op (.store oM (blkR (zOf c) j) (shapeCast S256x512 v hc) Finset.univ hx hm) k) (Finset.subset_univ _)
  have hl2 (g : Buf (Elt F) ((c : Thread nD τ).loc cc0_stg1_0)) :=
    wp_load_rect (defs := defs₀ (F := F)) (Γ := PendingWaitsCtx.empty) 𝒱₀ (c : Thread nD τ) none Set.univ (m := oM) (r := blkR (zOf c) j)
    (S := blkSet (zOf c) j) (q := fullShare) (f := g) (Q := Q) (hl := l2) (k := fun _ =>
      .op (.store oM (blkR (zOf c) j) (shapeCast S256x512 ((xM.access (inR j)).read (Elt F) (X c)) hc) Finset.univ hx hm) k)
      (subset_of_eq (blkM_set (zOf c) j))
  have hst (g : Buf (Elt F) ((c : Thread nD τ).loc cc0_stg1_0)) :=
    wp_store (defs := defs₀ (F := F)) (Γ := PendingWaitsCtx.empty) 𝒱₀ (c : Thread nD τ) none Set.univ (m := oM) (r := blkR (zOf c) j)
    (w := shapeCast S256x512 ((xM.access (inR j)).read (Elt F) (X c)) hc) (Mk := Finset.univ) (hx := hx) (hm := hm)
    (S := blkSet (zOf c) j) (f := g) (Q := Q) (k := k) (subset_of_eq (blkM_set (zOf c) j))
  iintro ⟨Hx, ⟨%g, Ho⟩, HK⟩
  iapply hl1 $$ Hx
  iintro Hx
  iapply (hl2 g) $$ Ho
  iintro Ho
  iapply (hst g) $$ Ho
  iintro Ho
  iapply HK
  isplitl [Hx]; · iexact Hx
  iapply (Entails.of_eq (pointsTo_congr (stored_on X c j g hc)))
  iexact Ho

end Steps

/-! ## Sections that handle one slot -/

omit [FloatOps F] in
/-- One element put into a separating conjunction. -/
theorem bigSep_put {I : Type} [DecidableEq I] {S : Finset I} {s : I} (hs : s ∉ S) (Φ : I → sProp 𝕄) :
    bigSep (insert s S) Φ = iprop(Φ s ∗ bigSep S Φ) := BI.bigSep_insert hs
omit [FloatOps F] in
/-- One element taken out of a separating conjunction. -/
theorem bigSep_take {I : Type} [DecidableEq I] {S : Finset I} {s : I} (hs : s ∈ S) (Φ : I → sProp 𝕄) :
    bigSep S Φ = iprop(Φ s ∗ bigSep (S.erase s) Φ) := BI.bigSep_erase hs

/-- Work over the slots of `V`: those of `S` are yet to be handled and hold `Pre`, the others are handled and hold `Post`;
    `I` is what is common to all of them. -/
def Loop (V S : Finset (Fin 4)) (Pre Post : Fin 4 → sProp 𝕄) (I : Finset (Fin 4) → sProp 𝕄) : sProp 𝕄 :=
  iprop(⌜S ⊆ V⌝ ∗ bigSep S Pre ∗ bigSep (V \ S) Post ∗ I S)

omit [FloatOps F] in
/-- At the start no slot is handled, -/
theorem loop_start (V : Finset (Fin 4)) (Pre Post : Fin 4 → sProp 𝕄) (I : Finset (Fin 4) → sProp 𝕄) :
    iprop(bigSep V Pre ∗ I V) ⊢ Loop V V Pre Post I := by
  unfold Loop
  rw [Finset.sdiff_self, BI.bigSep_empty]
  iintro ⟨H, HI⟩
  isplitr; · ipureintro; exact Finset.Subset.refl _
  isplitl [H]; · iexact H
  isplitr; · iempintro
  iexact HI

omit [FloatOps F] in
/-- and at the end all are. -/
theorem loop_end (V : Finset (Fin 4)) {S : Finset (Fin 4)} (hS : S = ∅) (Pre Post : Fin 4 → sProp 𝕄) (I : Finset (Fin 4) → sProp 𝕄) :
    Loop V S Pre Post I ⊢ iprop(bigSep V Post ∗ I ∅) := by
  subst hS
  unfold Loop
  rw [Finset.sdiff_empty]
  iintro ⟨-, -, H, HI⟩
  isplitl [H] <;> iassumption

/-- One program under another name. -/
theorem wpc_eq {c : Dev nD} {α : Type} {Q : α → sProp (MT nD τ sig Unit (Elt F) ℕ UU ℕ)} {R : sProp (MT nD τ sig Unit (Elt F) ℕ UU ℕ)}
    {p p' : Prog (TpuEff nD τ sig (Elt F) Λ₀ .tc) α} (e : p' = p) (h : R ⊢ wpc c p Q) : R ⊢ wpc c p' Q := by
  subst e; exact h

/-- A conditional section that handles slot `s` if it is among those to be handled. -/
theorem wp_section {c : Dev nD} {V S : Finset (Fin 4)} {s : Fin 4} {Pre Post : Fin 4 → sProp (MT nD τ sig Unit (Elt F) ℕ UU ℕ)}
    {I : Finset (Fin 4) → sProp (MT nD τ sig Unit (Elt F) ℕ UU ℕ)} {R : sProp (MT nD τ sig Unit (Elt F) ℕ UU ℕ)}
    {α : Type} {Q : α → sProp (MT nD τ sig Unit (Elt F) ℕ UU ℕ)} {P : Prop} [Decidable P] (hP : P ↔ s ∈ S)
    {a : P → Prog (TpuEff nD τ sig (Elt F) Λ₀ .tc) α} {b : ¬P → Prog (TpuEff nD τ sig (Elt F) Λ₀ .tc) α}
    (k : PUnit.{1} → Prog (TpuEff nD τ sig (Elt F) Λ₀ .tc) α)
    (hb : ∀ h, b h = k ⟨⟩)
    (hk : iprop(Loop V (S.erase s) Pre Post I ∗ R) ⊢ wpc c (k ⟨⟩) Q)
    (ha : ∀ _ : s ∈ S, ∀ h : P, iprop(Pre s ∗ I S ∗ ((Post s ∗ I (S.erase s)) -∗ wpc c (k ⟨⟩) Q)) ⊢ wpc c (a h) Q) :
    iprop(Loop V S Pre Post I ∗ R) ⊢ wpc c (dite P a b) Q := by
  by_cases h : P
  · rw [dif_pos h]
    have hs : s ∈ S := hP.mp h
    refine BIBase.Entails.trans ?_ (ha hs h)
    rw [show Loop V S Pre Post I = iprop(⌜S ⊆ V⌝ ∗ (Pre s ∗ bigSep (S.erase s) Pre) ∗ bigSep (V \ S) Post ∗ I S) from by
      unfold Loop; rw [bigSep_take hs]]
    iintro ⟨⟨%hV, ⟨Hs, Hrest⟩, Hdone, HI⟩, HR⟩
    isplitl [Hs]; · iexact Hs
    isplitl [HI]; · iexact HI
    iintro ⟨Hp, HI⟩
    iapply hk
    isplitr [HR]
    · unfold Loop
      rw [Finset.sdiff_erase (hV hs), bigSep_put (fun hm => (Finset.mem_sdiff.mp hm).2 hs)]
      isplitr; · ipureintro; exact (Finset.erase_subset _ _).trans hV
      isplitl [Hrest]; · iexact Hrest
      isplitr [HI]
      · isplitl [Hp] <;> iassumption
      iexact HI
    iexact HR
  · rw [dif_neg h, hb h]
    rw [Finset.erase_eq_of_notMem fun hs => h (hP.mpr hs)] at hk
    exact hk

end Cert.GatherProof
end
-- ==== Proof.Sections.lean ====
/-
# What one section of the kernel does for one slot
-/
module

public import proofs.«01_k».proof.Proof.Steps

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

/-- A block-sized slice of the result buffer at given offsets. -/
abbrev outSl (o : Fin 2 → ℕ) (h : ∀ a, o a + S256x512.size a ≤ S4096x512.size a) : Memref sig .tc .vmem S256x512 .bf16 :=
  oM.slice (Rect.unit (s := S4096x512) o S256x512.size h) (fun _ => rfl)
/-- A single semaphore taken out of an array at a given offset. -/
abbrev semOf (A : DmaSems sig S4) (o : Fin 1 → ℕ) (h : ∀ a, o a + S1.size a ≤ S4.size a) : DmaSem sig :=
  ((A.slice (Rect.unit (s := S4) o S1.size h)).squeeze S_ squeezes_S1_S_).sem
/-- A single semaphore taken out of a scratch array at a given offset. -/
abbrev semSl (b : Fin 2) (i : Fin 4) (o : Fin 1 → ℕ) (h : ∀ a, o a + S1.size a ≤ S4.size a) : DmaSem sig := semOf (scr b i) o h

/-- The slice at a block's offsets is the block. -/
theorem outSl_blk {o : Fin 2 → ℕ} {s k : Fin 4} (ho : o = blkOff s k) (h : ∀ a, o a + S256x512.size a ≤ S4096x512.size a) :
    outSl o h = blkM s k := by subst ho; rfl

/-- A mate has the same slots to fill. -/
theorem others_peer : ∀ (c : Dev nD) (i s : Fin 4), i ≠ 0 → others (peer i s c) = others c := by decide +kernel
/-- Which mate a signal goes to does not depend on a slot. -/
theorem peer_mate {i : Fin 4} (hi : i ≠ 0) (s s' : Fin 4) (c : Dev nD) : peer i s c = peer i s' c := by
  unfold peer; rw [if_neg hi, if_neg hi]

/-- All four slots or directions, listed. -/
theorem bigSep_mates (Φ : Fin 4 → sProp (MT nD τ sig Unit (Elt F) ℕ UU ℕ)) :
    bigSep (Finset.univ : Finset (Fin 4)) Φ = iprop(Φ 0 ∗ Φ 1 ∗ Φ 2 ∗ Φ 3) := by
  rw [bigSep_univ_eq_bigSepL [0, 1, 2, 3] (by decide) (by decide)]; rfl

section Sections
variable (X : Inputs F) (K : Dev nD × CellIx → ℕ) (c : Dev nD)
variable {α : Type} {Q : α → sProp (MT nD τ sig Unit (Elt F) ℕ UU ℕ)}
variable {k : PUnit.{1} → Prog (TpuEff nD τ sig (Elt F) Λ₀ .tc) α}

/-- A signal to a mate: all blocks that the mate is to fill go with it. -/
theorem mate_step {i : Fin 4} (hi : i ≠ 0) {n : Dev nD} (hn : n.val = (peer i 0 c).val) (O : 𝕋) {w : ℤ} (hw : w = ((1 : ℕ) : ℤ)) :
    iprop(env X K ∗ owesAny c (O + sigDebt c i (zOf c)) ∗ sigTok c i (zOf c) ∗ bigSep (others c) (landPts (F := F) c i)
        ∗ (owesAny c O -∗ wpc c (k ⟨⟩) Q))
      ⊢ wpc c (.op (.semSignal (Dev.tc n) barS w) k) Q := by
  have hm : (i, zOf c) ∈ sigs c := by
    unfold sigs; rw [Finset.mem_filter]; exact ⟨Finset.mem_univ _, by rw [if_neg hi]⟩
  have hp : barPay (F := F) (peer i (zOf c) c) (i, rslot i (zOf c) c) = bigSep (others c) (landPts c i) := by
    unfold barPay
    rw [if_neg hi, others_peer c i (zOf c) hi]
    refine bigSep_congr fun s _ => ?_
    have h := dest_land (F := F) c i s
    rw [peer_mate hi s (zOf c) c] at h
    unfold rslot at h
    rw [if_neg hi] at h
    exact h
  rw [peer_mate hi 0 (zOf c) c] at hn
  refine BIBase.Entails.trans ?_ (step_signal X K c hn hm O hw)
  rw [hp]

/-- What a transfer along `z` to slot `s` takes. -/
def zReady (s : Fin 4) : sProp 𝕄 := iprop(sendReady c 0 s ∗ destPts (F := F) c 0 s ∗ sendPay X c 0 s)

/-- The transfers along `z`. -/
abbrev SendLoop (S : Finset (Fin 4)) : sProp 𝕄 :=
  Loop (others c) S (zReady X c) (sendSent c 0) (fun S => iprop(env X K ∗ owesAny c (mDebt c (others c) + zDebt c S)))

/-- One transfer along `z`. -/
theorem zsend_step {S : Finset (Fin 4)} {s : Fin 4} (hs : s ∈ S) (hz : zOf c ≠ s) {n : Dev nD} (hn : n.val = (peer 0 s c).val)
    {o1 o2 : Fin 1 → ℕ} {o3 : Fin 2 → ℕ} (h1 : o1 = semOff s) (h2 : o2 = semOff (zOf c)) (h3 : o3 = blkOff (zOf c) (qOf c))
    {i1 : ∀ a, o1 a + S1.size a ≤ S4.size a} {i2 : ∀ a, o2 a + S1.size a ≤ S4.size a} {i3 : ∀ a, o3 a + S256x512.size a ≤ S4096x512.size a}
    {hsc : (outSl o3 i3).view.ref.isScScratch = false} {hsrc hdst : (outSl o3 i3).view.WordExact}
    {hsem : DmaTarget.Typed .vmem (.dma (semSl 1 0 o2 i2)) (.remote (Dev.tc n : Thread nD τ) (outSl o3 i3) (.dma (semSl 0 0 o1 i1)) hsc)} :
    iprop(zReady X c s ∗ (env X K ∗ owesAny c (mDebt c (others c) + zDebt c S))
        ∗ ((sendSent c 0 s ∗ (env X K ∗ owesAny c (mDebt c (others c) + zDebt c (S.erase s)))) -∗ wpc c (k ⟨⟩) Q))
      ⊢ wpc c (.op (.enqueueDma (outSl o3 i3) (.remote (Dev.tc n : Thread nD τ) (outSl o3 i3) (.dma (semSl 0 0 o1 i1)) hsc)
          (.dma (semSl 1 0 o2 i2)) hsrc hdst hsem) k) Q := by
  have h := step_send X K c (i := 0) (s := s) (Q := Q) (k := k) hn hz (mDebt c (others c) + zDebt c (S.erase s)) (v := outSl o3 i3) (w := outSl o3 i3)
    (outSl_blk h3 i3) (outSl_blk h3 i3) (sem_slot 0 0 s h1 i1 squeezes_S1_S_) (sem_slot 1 0 (zOf c) h2 i2 squeezes_S1_S_)
    (hsc := hsc) (hsrc := hsrc) (hdst := hdst) (hsem := hsem)
  refine BIBase.Entails.trans ?_ h
  rw [zDebt_split hs]
  unfold zReady
  iintro ⟨⟨Ht, Hd, Hp⟩, ⟨#HE, HO⟩, HK⟩
  isplitr; · iexact HE
  isplitl [HO]; · iexact HO
  isplitl [Ht]; · iexact Ht
  isplitl [Hd]; · iexact Hd
  isplitl [Hp]; · iexact Hp
  iintro ⟨HO, Hs⟩
  iapply HK
  isplitl [Hs]; · iexact Hs
  isplitr; · iexact HE
  iexact HO

/-- What passing chunk `s` on takes: the right to await its block, and the tokens and blocks of three transfers. -/
def fwdReady (s : Fin 4) : sProp 𝕄 :=
  iprop(recvReady c 0 s ∗ (sendReady c 1 s ∗ destPts (F := F) c 1 s) ∗ (sendReady c 2 s ∗ destPts (F := F) c 2 s) ∗ (sendReady c 3 s ∗ destPts (F := F) c 3 s))
/-- What is left once chunk `s` has been passed on: a share of its block, and three transfers under way. -/
def fwdDone (s : Fin 4) : sProp 𝕄 :=
  iprop(atPos ER (rCell c 0 s) 1 ∅ 0 ∗ blkPts c s (qOf c) (sh 0) (outAt X c) ∗ sendSent c 1 s ∗ sendSent c 2 s ∗ sendSent c 3 s)

/-- Passing on the chunks that came along `z`. -/
abbrev FwdLoop (S : Finset (Fin 4)) : sProp 𝕄 :=
  Loop (others c) S (fwdReady c) (fwdDone X c) (fun S => iprop(env X K ∗ owesAny c (mDebt c S)))

/-- The share a transfer to mate `i` reads. -/
theorem pay_share {i : Fin 4} (hi : i ≠ 0) (s : Fin 4) : sendPay X c i s = blkPts c s (qOf c) (sh i) (outAt X c) := by
  unfold sendPay rslot xshare; rw [if_neg hi, if_neg hi]

/-- One transfer to a mate. -/
theorem msend_step {i s : Fin 4} (hi : i ≠ 0) (hz : zOf c ≠ s) {n : Dev nD} (hn : n.val = (peer i s c).val) (O : 𝕋)
    {o : Fin 1 → ℕ} {o' : Fin 2 → ℕ} (h1 : o = semOff s) (h2 : o' = blkOff s (qOf c))
    {i1 i2 : ∀ a, o a + S1.size a ≤ S4.size a} {i3 : ∀ a, o' a + S256x512.size a ≤ S4096x512.size a}
    {hsc : (outSl o' i3).view.ref.isScScratch = false} {hsrc hdst : (outSl o' i3).view.WordExact}
    {hsem : DmaTarget.Typed .vmem (.dma (semSl 1 i o i2)) (.remote (Dev.tc n : Thread nD τ) (outSl o' i3) (.dma (semSl 0 i o i1)) hsc)} :
    iprop(env X K ∗ owesAny c (O + xferDebt c i s) ∗ (sendReady c i s ∗ destPts (F := F) c i s) ∗ blkPts c s (qOf c) (sh i) (outAt X c)
        ∗ ((owesAny c O ∗ sendSent c i s) -∗ wpc c (k ⟨⟩) Q))
      ⊢ wpc c (.op (.enqueueDma (outSl o' i3) (.remote (Dev.tc n : Thread nD τ) (outSl o' i3) (.dma (semSl 0 i o i1)) hsc)
          (.dma (semSl 1 i o i2)) hsrc hdst hsem) k) Q := by
  have hr : rslot i s c = s := if_neg hi
  have h := step_send X K c (i := i) (s := s) (Q := Q) (k := k) hn hz O (v := outSl o' i3) (w := outSl o' i3)
    (by rw [hr]; exact outSl_blk h2 i3) (by rw [hr]; exact outSl_blk h2 i3) (sem_slot 0 i s h1 i1 squeezes_S1_S_)
    (by rw [hr]; exact sem_slot 1 i s h1 i2 squeezes_S1_S_)
    (hsc := hsc) (hsrc := hsrc) (hdst := hdst) (hsem := hsem)
  refine BIBase.Entails.trans ?_ h
  rw [pay_share X c hi s]
  iintro ⟨HE, HO, ⟨Ht, Hd⟩, Hp, HK⟩
  isplitl [HE]; · iexact HE
  isplitl [HO]; · iexact HO
  isplitl [Ht]; · iexact Ht
  isplitl [Hd]; · iexact Hd
  isplitl [Hp] <;> iassumption

/-- Between the first and the second transfer of chunk `s`. -/
def fwdBetween (S : Finset (Fin 4)) (s : Fin 4) : sProp 𝕄 :=
  iprop((env X K ∗ owesAny c (mDebt c (S.erase s) + xferDebt c 3 s + xferDebt c 2 s)) ∗ (atPos ER (rCell c 0 s) 1 ∅ 0 ∗ sendSent c 1 s)
    ∗ blkPts c s (qOf c) (sh 0) (outAt X c) ∗ blkPts c s (qOf c) (sh 2) (outAt X c) ∗ blkPts c s (qOf c) (sh 3) (outAt X c))

/-- Chunk `s` comes in along `z` and goes out to the first mate. -/
theorem take_step {S : Finset (Fin 4)} {s : Fin 4} (hs : s ∈ S) (hz : zOf c ≠ s) {n : Dev nD} (hn : n.val = (peer 1 s c).val)
    {o : Fin 1 → ℕ} {o' : Fin 2 → ℕ} (h1 : o = semOff s) (h2 : o' = blkOff s (qOf c))
    {i1 : ∀ a, o a + S1.size a ≤ S4.size a} {i3 : ∀ a, o' a + S256x512.size a ≤ S4096x512.size a}
    {wx : (outSl o' i3).view.WordExact} {hsc : (outSl o' i3).view.ref.isScScratch = false}
    {ht : DmaTarget.Typed .vmem (.dma (semSl 1 1 o i1)) (.remote (Dev.tc n : Thread nD τ) (outSl o' i3) (.dma (semSl 0 1 o i1)) hsc)} :
    iprop((recvReady c 0 s ∗ (sendReady c 1 s ∗ destPts (F := F) c 1 s)) ∗ env X K ∗ owesAny c (mDebt c S))
      ⊢ wpc c (.op (.waitDma2 (semSl 1 0 o i1) (outSl o' i3) (outSl o' i3) wx wx) fun _ =>
          .op (.enqueueDma (outSl o' i3) (.remote (Dev.tc n : Thread nD τ) (outSl o' i3) (.dma (semSl 0 1 o i1)) hsc) (.dma (semSl 1 1 o i1)) wx wx ht) fun _ =>
          .ret PUnit.unit.{1}) (fun _ => fwdBetween X K c S s) := by
  have e1 := msend_step X K c (Q := fun _ => fwdBetween X K c S s) (k := fun _ => .ret PUnit.unit.{1}) (by decide : (1 : Fin 4) ≠ 0) hz hn (mDebt c (S.erase s) + xferDebt c 3 s + xferDebt c 2 s) h1 h2
    (i1 := i1) (i2 := i1) (i3 := i3) (hsc := hsc) (hsrc := wx) (hdst := wx) (hsem := ht)
  have e0 := step_wait X K c (b := 1) (i := 0) (s := s) (Q := fun _ => fwdBetween X K c S s) (k := fun _ =>
      .op (.enqueueDma (outSl o' i3) (.remote (Dev.tc n : Thread nD τ) (outSl o' i3) (.dma (semSl 0 1 o i1)) hsc) (.dma (semSl 1 1 o i1)) wx wx ht) fun _ => .ret PUnit.unit.{1})
    hz (above_mates c S) (le_refl 2) (sem_slot 1 0 s h1 i1 squeezes_S1_S_) (v := outSl o' i3) (w := outSl o' i3) (credit_slice o' i3) (hv := wx) (hw := wx)
  have hp : (if (1 : Fin 2) = 0 then sendPay X c 0 s else recvPay X c 0 s) = iprop(blkPts c s (qOf c) (sh 0) (outAt X c) ∗ blkPts c s (qOf c) (sh 1) (outAt X c)
      ∗ blkPts c s (qOf c) (sh 2) (outAt X c) ∗ blkPts c s (qOf c) (sh 3) (outAt X c)) := by
    rw [if_neg (by decide)]
    unfold recvPay
    rw [blk_shares, bigSep_mates]
    rfl
  rw [hp, mDebt_split hs] at e0
  rw [mDebt_split hs]
  unfold recvReady
  iintro ⟨⟨⟨Hc, Ha⟩, Hs1⟩, #HE, HO⟩
  iapply e0
  isplitr; · iexact HE
  isplitl [HO]; · iexact HO
  isplitl [Hc]; · iexact Hc
  isplitl [Ha]; · iexact Ha
  iintro ⟨HO, Ha, Hb0, Hb1, Hb23⟩
  iapply e1
  isplitr; · iexact HE
  isplitl [HO]; · iexact HO
  isplitl [Hs1]; · iexact Hs1
  isplitl [Hb1]; · iexact Hb1
  iintro ⟨HO, Hs1⟩
  unfold wpc
  rw [wp_ret]
  imodintro
  unfold fwdBetween
  isplitl [HO]
  · isplitr; · iexact HE
    iexact HO
  isplitl [Ha Hs1]
  · isplitl [Ha] <;> iassumption
  isplitl [Hb0] <;> iassumption

/-- Chunk `s` comes in along `z` and goes out to the three mates: `p` is its arrival and the first transfer. -/
theorem fwd_step {S : Finset (Fin 4)} {s : Fin 4} (hz : zOf c ≠ s) {p : Prog (TpuEff nD τ sig (Elt F) Λ₀ .tc) PUnit.{1}}
    (hp : iprop((recvReady c 0 s ∗ (sendReady c 1 s ∗ destPts (F := F) c 1 s)) ∗ env X K ∗ owesAny c (mDebt c S)) ⊢ wpc c p (fun _ => fwdBetween X K c S s))
    {n2 n3 : Dev nD} (hn2 : n2.val = (peer 2 s c).val) (hn3 : n3.val = (peer 3 s c).val)
    {o : Fin 1 → ℕ} {o' : Fin 2 → ℕ} (h1 : o = semOff s) (h2 : o' = blkOff s (qOf c))
    {i1 : ∀ a, o a + S1.size a ≤ S4.size a} {i3 : ∀ a, o' a + S256x512.size a ≤ S4096x512.size a}
    {wx : (outSl o' i3).view.WordExact} {hsc : (outSl o' i3).view.ref.isScScratch = false}
    {t2 : DmaTarget.Typed .vmem (.dma (semSl 1 2 o i1)) (.remote (Dev.tc n2 : Thread nD τ) (outSl o' i3) (.dma (semSl 0 2 o i1)) hsc)}
    {t3 : DmaTarget.Typed .vmem (.dma (semSl 1 3 o i1)) (.remote (Dev.tc n3 : Thread nD τ) (outSl o' i3) (.dma (semSl 0 3 o i1)) hsc)} :
    iprop(fwdReady c s ∗ (env X K ∗ owesAny c (mDebt c S))
        ∗ ((fwdDone X c s ∗ (env X K ∗ owesAny c (mDebt c (S.erase s)))) -∗ wpc c (k ⟨⟩) Q))
      ⊢ wpc c (p >>= fun _ =>
          .op (.enqueueDma (outSl o' i3) (.remote (Dev.tc n2 : Thread nD τ) (outSl o' i3) (.dma (semSl 0 2 o i1)) hsc) (.dma (semSl 1 2 o i1)) wx wx t2) fun _ =>
          .op (.enqueueDma (outSl o' i3) (.remote (Dev.tc n3 : Thread nD τ) (outSl o' i3) (.dma (semSl 0 3 o i1)) hsc) (.dma (semSl 1 3 o i1)) wx wx t3) k) Q := by
  have e3 := msend_step X K c (Q := Q) (k := k) (by decide : (3 : Fin 4) ≠ 0) hz hn3 (mDebt c (S.erase s)) h1 h2 (i1 := i1) (i2 := i1) (i3 := i3) (hsc := hsc) (hsrc := wx) (hdst := wx) (hsem := t3)
  have e2 := msend_step X K c (Q := Q) (k := fun _ => .op (.enqueueDma (outSl o' i3) (.remote (Dev.tc n3 : Thread nD τ) (outSl o' i3) (.dma (semSl 0 3 o i1)) hsc) (.dma (semSl 1 3 o i1)) wx wx t3) k)
    (by decide : (2 : Fin 4) ≠ 0) hz hn2 (mDebt c (S.erase s) + xferDebt c 3 s) h1 h2 (i1 := i1) (i2 := i1) (i3 := i3) (hsc := hsc) (hsrc := wx) (hdst := wx) (hsem := t2)
  rw [show wpc c (p >>= fun _ =>
          .op (.enqueueDma (outSl o' i3) (.remote (Dev.tc n2 : Thread nD τ) (outSl o' i3) (.dma (semSl 0 2 o i1)) hsc) (.dma (semSl 1 2 o i1)) wx wx t2) fun _ =>
          .op (.enqueueDma (outSl o' i3) (.remote (Dev.tc n3 : Thread nD τ) (outSl o' i3) (.dma (semSl 0 3 o i1)) hsc) (.dma (semSl 1 3 o i1)) wx wx t3) k) Q
      = wpc c p fun _ => wpc c (.op (.enqueueDma (outSl o' i3) (.remote (Dev.tc n2 : Thread nD τ) (outSl o' i3) (.dma (semSl 0 2 o i1)) hsc) (.dma (semSl 1 2 o i1)) wx wx t2) fun _ =>
          .op (.enqueueDma (outSl o' i3) (.remote (Dev.tc n3 : Thread nD τ) (outSl o' i3) (.dma (semSl 0 3 o i1)) hsc) (.dma (semSl 1 3 o i1)) wx wx t3) k) Q from wp_bind _ _ _ _ _ _]
  unfold fwdReady fwdDone
  iintro ⟨⟨Hr, Hs1, Hs2, Hs3⟩, ⟨#HE, HO⟩, HK⟩
  iapply (wp_wand_r Idealize.ShloMosaic.frame (wpE (defs₀ (F := F)) 𝒱₀ (c : Thread nD τ) none) Set.univ)
  isplitl [Hr Hs1 HO]
  · iapply hp
    isplitr [HO]
    · isplitl [Hr] <;> iassumption
    isplitr; · iexact HE
    iexact HO
  unfold fwdBetween
  iintro %r ⟨⟨-, HO⟩, ⟨Ha, Hs1⟩, Hb0, Hb2, Hb3⟩
  iapply e2
  isplitr; · iexact HE
  isplitl [HO]; · iexact HO
  isplitl [Hs2]; · iexact Hs2
  isplitl [Hb2]; · iexact Hb2
  iintro ⟨HO, Hs2⟩
  iapply e3
  isplitr; · iexact HE
  isplitl [HO]; · iexact HO
  isplitl [Hs3]; · iexact Hs3
  isplitl [Hb3]; · iexact Hb3
  iintro ⟨HO, Hs3⟩
  iapply HK
  isplitr [HO]
  · isplitl [Ha]; · iexact Ha
    isplitl [Hb0]; · iexact Hb0
    isplitl [Hs1]; · iexact Hs1
    isplitl [Hs2] <;> iassumption
  isplitr; · iexact HE
  iexact HO

/-- The same with the scratch arrays under other names. -/
theorem fwd_named {A : Fin 2 → Fin 4 → DmaSems sig S4} (hA : A = scr) {S : Finset (Fin 4)} {s : Fin 4} (hz : zOf c ≠ s)
    {p : Prog (TpuEff nD τ sig (Elt F) Λ₀ .tc) PUnit.{1}}
    (hp : iprop((recvReady c 0 s ∗ (sendReady c 1 s ∗ destPts (F := F) c 1 s)) ∗ env X K ∗ owesAny c (mDebt c S)) ⊢ wpc c p (fun _ => fwdBetween X K c S s))
    {n2 n3 : Dev nD} (hn2 : n2.val = (peer 2 s c).val) (hn3 : n3.val = (peer 3 s c).val)
    {o : Fin 1 → ℕ} {o' : Fin 2 → ℕ} (h1 : o = semOff s) (h2 : o' = blkOff s (qOf c))
    {i1 : ∀ a, o a + S1.size a ≤ S4.size a} {i3 : ∀ a, o' a + S256x512.size a ≤ S4096x512.size a}
    {wx : (outSl o' i3).view.WordExact} {hsc : (outSl o' i3).view.ref.isScScratch = false}
    {t2 : DmaTarget.Typed .vmem (.dma (semOf (A 1 2) o i1)) (.remote (Dev.tc n2 : Thread nD τ) (outSl o' i3) (.dma (semOf (A 0 2) o i1)) hsc)}
    {t3 : DmaTarget.Typed .vmem (.dma (semOf (A 1 3) o i1)) (.remote (Dev.tc n3 : Thread nD τ) (outSl o' i3) (.dma (semOf (A 0 3) o i1)) hsc)} :
    iprop(fwdReady c s ∗ (env X K ∗ owesAny c (mDebt c S))
        ∗ ((fwdDone X c s ∗ (env X K ∗ owesAny c (mDebt c (S.erase s)))) -∗ wpc c (k ⟨⟩) Q))
      ⊢ wpc c (p >>= fun _ =>
          .op (.enqueueDma (outSl o' i3) (.remote (Dev.tc n2 : Thread nD τ) (outSl o' i3) (.dma (semOf (A 0 2) o i1)) hsc) (.dma (semOf (A 1 2) o i1)) wx wx t2) fun _ =>
          .op (.enqueueDma (outSl o' i3) (.remote (Dev.tc n3 : Thread nD τ) (outSl o' i3) (.dma (semOf (A 0 3) o i1)) hsc) (.dma (semOf (A 1 3) o i1)) wx wx t3) k) Q := by
  subst hA
  exact fwd_step X K c (k := k) (Q := Q) hz hp hn2 hn3 h1 h2 (i1 := i1) (i3 := i3) (wx := wx) (hsc := hsc) (t2 := t2) (t3 := t3)

/-- An arrival from mate `i` that has been awaited: its block is there. -/
def landed (i s : Fin 4) : sProp 𝕄 := iprop(atPos ER (rCell c i s) 1 ∅ 0 ∗ recvPay X c i s)
/-- A transfer that has been awaited: the share of the block it read is back. -/
def sentBack (i s : Fin 4) : sProp 𝕄 := iprop(atPos ER (sCell c i s) 1 ∅ 0 ∗ sendPay X c i s)
/-- The right to wait for the end of a transfer. -/
def sentReady (i s : Fin 4) : sProp 𝕄 := iprop(sendSent c i s ∗ atPos ER (sCell c i s) 0 ∅ 0)

/-- Waiting for an arrival from a mate. -/
theorem landed_step {i s : Fin 4} (hz : zOf c ≠ s) (hl : lvIx (some (1, i, s)) ≤ 3) {o : Fin 1 → ℕ} {o' : Fin 2 → ℕ} (h1 : o = semOff s)
    {i1 : ∀ a, o a + S1.size a ≤ S4.size a} {i3 : ∀ a, o' a + S256x512.size a ≤ S4096x512.size a} {wx : (outSl o' i3).view.WordExact} :
    iprop(env X K ∗ owesAny c 0 ∗ recvReady c i s ∗ ((owesAny c 0 ∗ landed X c i s) -∗ wpc c (k ⟨⟩) Q))
      ⊢ wpc c (.op (.waitDma2 (semSl 1 i o i1) (outSl o' i3) (outSl o' i3) wx wx) k) Q := by
  have h := step_wait X K c (b := 1) (i := i) (s := s) (Q := Q) (k := k) hz (Above.zero 3) hl (sem_slot 1 i s h1 i1 squeezes_S1_S_)
    (v := outSl o' i3) (w := outSl o' i3) (credit_slice o' i3) (hv := wx) (hw := wx)
  rw [if_neg (by decide)] at h
  refine BIBase.Entails.trans ?_ h
  unfold recvReady landed
  iintro ⟨HE, HO, ⟨Hc, Ha⟩, HK⟩
  isplitl [HE]; · iexact HE
  isplitl [HO]; · iexact HO
  isplitl [Hc]; · iexact Hc
  isplitl [Ha] <;> iassumption

/-- Waiting for the end of a transfer. -/
theorem sent_step {i s : Fin 4} (hz : zOf c ≠ s) {o : Fin 1 → ℕ} {o' : Fin 2 → ℕ} (h1 : o = semOff s)
    {i1 : ∀ a, o a + S1.size a ≤ S4.size a} {i3 : ∀ a, o' a + S256x512.size a ≤ S4096x512.size a} {wx : (outSl o' i3).view.WordExact} :
    iprop(env X K ∗ owesAny c 0 ∗ sentReady c i s ∗ ((owesAny c 0 ∗ sentBack X c i s) -∗ wpc c (k ⟨⟩) Q))
      ⊢ wpc c (.op (.waitDma2 (semSl 0 i o i1) (outSl o' i3) (outSl o' i3) wx wx) k) Q := by
  have h := step_wait X K c (b := 0) (i := i) (s := s) (Q := Q) (k := k) hz (Above.zero 0) (le_refl 0) (sem_slot 0 i s h1 i1 squeezes_S1_S_)
    (v := outSl o' i3) (w := outSl o' i3) (credit_slice o' i3) (hv := wx) (hw := wx)
  rw [if_pos rfl] at h
  refine BIBase.Entails.trans ?_ h
  unfold sentReady sentBack sendSent
  iintro ⟨HE, HO, ⟨Hc, Ha⟩, HK⟩
  isplitl [HE]; · iexact HE
  isplitl [HO]; · iexact HO
  isplitl [Hc]; · iexact Hc
  isplitl [Ha] <;> iassumption

/-- What the waits for the three mates take for one slot. -/
def matesReady (s : Fin 4) : sProp 𝕄 := iprop(recvReady c 1 s ∗ recvReady c 2 s ∗ recvReady c 3 s)
/-- What the waits for the three mates give for one slot. -/
def matesDone (s : Fin 4) : sProp 𝕄 := iprop(landed X c 1 s ∗ landed X c 2 s ∗ landed X c 3 s)
/-- What the waits for the four sends take for one slot. -/
def drainReady (s : Fin 4) : sProp 𝕄 := iprop(sentReady c 0 s ∗ sentReady c 1 s ∗ sentReady c 2 s ∗ sentReady c 3 s)
/-- What the waits for the four sends give for one slot. -/
def drainDone (s : Fin 4) : sProp 𝕄 := iprop(sentBack X c 0 s ∗ sentBack X c 1 s ∗ sentBack X c 2 s ∗ sentBack X c 3 s)

/-- Awaiting the chunks from the mates. -/
abbrev MateLoop (S : Finset (Fin 4)) : sProp 𝕄 :=
  Loop (others c) S (matesReady c) (matesDone X c) (fun _ => iprop(env X K ∗ owesAny c 0))
/-- Awaiting the end of the transfers. -/
abbrev DrainLoop (S : Finset (Fin 4)) : sProp 𝕄 :=
  Loop (others c) S (drainReady c) (drainDone X c) (fun _ => iprop(env X K ∗ owesAny c 0))

/-- Chunk `s` comes in from the three mates. -/
theorem mates_step {s : Fin 4} (hz : zOf c ≠ s) {o : Fin 1 → ℕ} (h1 : o = semOff s) {a b d : Fin 2 → ℕ}
    {i1 : ∀ a, o a + S1.size a ≤ S4.size a} {ia : ∀ j, a j + S256x512.size j ≤ S4096x512.size j}
    {ib : ∀ j, b j + S256x512.size j ≤ S4096x512.size j} {id : ∀ j, d j + S256x512.size j ≤ S4096x512.size j}
    {wa : (outSl a ia).view.WordExact} {wb : (outSl b ib).view.WordExact} {wd : (outSl d id).view.WordExact} :
    iprop(matesReady c s ∗ (env X K ∗ owesAny c 0) ∗ ((matesDone X c s ∗ (env X K ∗ owesAny c 0)) -∗ wpc c (k ⟨⟩) Q))
      ⊢ wpc c (.op (.waitDma2 (semSl 1 1 o i1) (outSl a ia) (outSl a ia) wa wa) fun _ =>
          .op (.waitDma2 (semSl 1 2 o i1) (outSl b ib) (outSl b ib) wb wb) fun _ =>
          .op (.waitDma2 (semSl 1 3 o i1) (outSl d id) (outSl d id) wd wd) k) Q := by
  have e3 := landed_step X K c (i := 3) (Q := Q) (k := k) hz (le_refl 3) h1 (i1 := i1) (i3 := id) (wx := wd)
  have e2 := landed_step X K c (i := 2) (Q := Q) (k := fun _ => .op (.waitDma2 (semSl 1 3 o i1) (outSl d id) (outSl d id) wd wd) k)
    hz (le_refl 3) h1 (i1 := i1) (i3 := ib) (wx := wb)
  have e1 := landed_step X K c (i := 1) (Q := Q) (k := fun _ => .op (.waitDma2 (semSl 1 2 o i1) (outSl b ib) (outSl b ib) wb wb) fun _ =>
      .op (.waitDma2 (semSl 1 3 o i1) (outSl d id) (outSl d id) wd wd) k) hz (le_refl 3) h1 (i1 := i1) (i3 := ia) (wx := wa)
  unfold matesReady matesDone
  iintro ⟨⟨H1, H2, H3⟩, ⟨#HE, HO⟩, HK⟩
  iapply e1
  isplitr; · iexact HE
  isplitl [HO]; · iexact HO
  isplitl [H1]; · iexact H1
  iintro ⟨HO, H1⟩
  iapply e2
  isplitr; · iexact HE
  isplitl [HO]; · iexact HO
  isplitl [H2]; · iexact H2
  iintro ⟨HO, H2⟩
  iapply e3
  isplitr; · iexact HE
  isplitl [HO]; · iexact HO
  isplitl [H3]; · iexact H3
  iintro ⟨HO, H3⟩
  iapply HK
  isplitr [HO]
  · isplitl [H1]; · iexact H1
    isplitl [H2] <;> iassumption
  isplitr; · iexact HE
  iexact HO

/-- The four transfers of slot `s` end. -/
theorem drain_step {s : Fin 4} (hz : zOf c ≠ s) {o : Fin 1 → ℕ} (h1 : o = semOff s) {a b : Fin 2 → ℕ}
    {i1 : ∀ a, o a + S1.size a ≤ S4.size a} {ia : ∀ j, a j + S256x512.size j ≤ S4096x512.size j}
    {ib : ∀ j, b j + S256x512.size j ≤ S4096x512.size j}
    {wa : (outSl a ia).view.WordExact} {wb : (outSl b ib).view.WordExact} :
    iprop(drainReady c s ∗ (env X K ∗ owesAny c 0) ∗ ((drainDone X c s ∗ (env X K ∗ owesAny c 0)) -∗ wpc c (k ⟨⟩) Q))
      ⊢ wpc c (.op (.waitDma2 (semSl 0 0 o i1) (outSl a ia) (outSl a ia) wa wa) fun _ =>
          .op (.waitDma2 (semSl 0 1 o i1) (outSl b ib) (outSl b ib) wb wb) fun _ =>
          .op (.waitDma2 (semSl 0 2 o i1) (outSl b ib) (outSl b ib) wb wb) fun _ =>
          .op (.waitDma2 (semSl 0 3 o i1) (outSl b ib) (outSl b ib) wb wb) k) Q := by
  have e3 := sent_step X K c (i := 3) (Q := Q) (k := k) hz h1 (i1 := i1) (i3 := ib) (wx := wb)
  have e2 := sent_step X K c (i := 2) (Q := Q) (k := fun _ => .op (.waitDma2 (semSl 0 3 o i1) (outSl b ib) (outSl b ib) wb wb) k)
    hz h1 (i1 := i1) (i3 := ib) (wx := wb)
  have e1 := sent_step X K c (i := 1) (Q := Q) (k := fun _ => .op (.waitDma2 (semSl 0 2 o i1) (outSl b ib) (outSl b ib) wb wb) fun _ =>
      .op (.waitDma2 (semSl 0 3 o i1) (outSl b ib) (outSl b ib) wb wb) k) hz h1 (i1 := i1) (i3 := ib) (wx := wb)
  have e0 := sent_step X K c (i := 0) (Q := Q) (k := fun _ => .op (.waitDma2 (semSl 0 1 o i1) (outSl b ib) (outSl b ib) wb wb) fun _ =>
      .op (.waitDma2 (semSl 0 2 o i1) (outSl b ib) (outSl b ib) wb wb) fun _ =>
      .op (.waitDma2 (semSl 0 3 o i1) (outSl b ib) (outSl b ib) wb wb) k) hz h1 (i1 := i1) (i3 := ia) (wx := wa)
  unfold drainReady drainDone
  iintro ⟨⟨H0, H1, H2, H3⟩, ⟨#HE, HO⟩, HK⟩
  iapply e0
  isplitr; · iexact HE
  isplitl [HO]; · iexact HO
  isplitl [H0]; · iexact H0
  iintro ⟨HO, H0⟩
  iapply e1
  isplitr; · iexact HE
  isplitl [HO]; · iexact HO
  isplitl [H1]; · iexact H1
  iintro ⟨HO, H1⟩
  iapply e2
  isplitr; · iexact HE
  isplitl [HO]; · iexact HO
  isplitl [H2]; · iexact H2
  iintro ⟨HO, H2⟩
  iapply e3
  isplitr; · iexact HE
  isplitl [HO]; · iexact HO
  isplitl [H3]; · iexact H3
  iintro ⟨HO, H3⟩
  iapply HK
  isplitr [HO]
  · isplitl [H0]; · iexact H0
    isplitl [H1]; · iexact H1
    isplitl [H2] <;> iassumption
  isplitr; · iexact HE
  iexact HO

/-- The quarters of a device's own chunk that it copies last. -/
abbrev CopyLoop (S : Finset (Fin 4)) : sProp 𝕄 :=
  Loop (othersQ c) S (fun j => iprop(∃ g, blkPts c (zOf c) j fullShare g)) (fun j => blkPts c (zOf c) j fullShare (outAt X c)) (fun _ => xPts X c)

/-- One quarter copied. -/
theorem copy_step {j : Fin 4} {o1 : Fin 2 → ℕ} {o2 : Fin 2 → ℕ} (h1 : o1 = inOff j) (h2 : o2 = blkOff (zOf c) j)
    {i1 : ∀ a, o1 a + S256x512.size a ≤ S1024x512.size a} {i2 : ∀ a, o2 a + S256x512.size a ≤ S4096x512.size a}
    {l1 : xM.view.LoadsAt (Rect.unit (s := S1024x512) o1 S256x512.size i1).toLoadRect}
    {l2 : oM.view.LoadsAt (Rect.unit (s := S4096x512) o2 S256x512.size i2).toLoadRect}
    {hx : (oM.access (Rect.unit (s := S4096x512) o2 S256x512.size i2)).Stores Finset.univ}
    {hm : (Finset.univ : Finset (Rect.unit (s := S4096x512) o2 S256x512.size i2).shape.Idx) = Finset.univ
      ∨ ∀ a, (Rect.unit (s := S4096x512) o2 S256x512.size i2).stride a = 1} :
    iprop((∃ g, blkPts c (zOf c) j fullShare g) ∗ xPts X c ∗ ((blkPts c (zOf c) j fullShare (outAt X c) ∗ xPts X c) -∗ wpc c (k ⟨⟩) Q))
      ⊢ wpc c (.op (.load xM (Rect.unit (s := S1024x512) o1 S256x512.size i1).toLoadRect l1) fun v =>
          .op (.load oM (Rect.unit (s := S4096x512) o2 S256x512.size i2).toLoadRect l2) fun _ =>
          .op (.store oM (Rect.unit (s := S4096x512) o2 S256x512.size i2) (shapeCast S256x512 v shapeCasts_S256x512_S256x512) Finset.univ hx hm) k) Q := by
  refine BIBase.Entails.trans ?_ (step_store X c h1 h2 shapeCasts_S256x512_S256x512 (k := k) (Q := Q) (i1 := i1) (i2 := i2) (l1 := l1) (l2 := l2) (hx := hx) (hm := hm))
  iintro ⟨Hb, Hx, HK⟩
  isplitl [Hx]; · iexact Hx
  isplitl [Hb]; · iexact Hb
  iintro ⟨Hx, Hb⟩
  iapply HK
  isplitl [Hb] <;> iassumption

end Sections

end Cert.GatherProof
end
-- ==== Proof.Start.lean ====
/-
# The kernel's start: its own quarter, the handshake and the first transfers
-/
module

public import proofs.«01_k».proof.Proof.Steps

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

attribute [local irreducible] k0_cond1 k0_cond2 k0_cond3 k0_cond4 k0_cond5 k0_cond6
  k0_dev1 k0_dev2 k0_dev3 k0_dev4 k0_dev5 k0_dev6 k0_dev7 k0_dev8 k0_dev9
  k0_off1 k0_off2 k0_off3 k0_off4 k0_off5 k0_off6

/-- What a signal along `z` to slot `s` takes: its token and the block the receiver is to fill. -/
def sigReady (c : Dev nD) (s : Fin 4) : sProp 𝕄 := iprop(landPts (F := F) c 0 s ∗ sigTok c 0 s)

/-- The signals along `z`. -/
abbrev SigLoop (X : Inputs F) (K : Dev nD × CellIx → ℕ) (c : Dev nD) (O : 𝕋) (S : Finset (Fin 4)) : sProp 𝕄 :=
  Loop (others c) S (sigReady c) (fun _ => iprop(emp)) (fun S => iprop(env X K ∗ owesAny c (O + zSigs c S)))

/-- One signal along `z`. -/
theorem zsig_step (X : Inputs F) (K : Dev nD × CellIx → ℕ) (c : Dev nD) (O : 𝕋) {S : Finset (Fin 4)} {s : Fin 4} (hs : s ∈ S)
    (hz : zOf c ≠ s) {n : Dev nD} (hn : n.val = (peer 0 s c).val) {w : ℤ} (hw : w = ((1 : ℕ) : ℤ))
    {α : Type} {Q : α → sProp (MT nD τ sig Unit (Elt F) ℕ UU ℕ)} {k : PUnit.{1} → Prog (TpuEff nD τ sig (Elt F) Λ₀ .tc) α} :
    iprop(sigReady c s ∗ (env X K ∗ owesAny c (O + zSigs c S)) ∗ ((emp ∗ (env X K ∗ owesAny c (O + zSigs c (S.erase s)))) -∗ wpc c (k ⟨⟩) Q))
      ⊢ wpc c (.op (.semSignal (Dev.tc n) barS w) k) Q := by
  have hm : ((0, s) : Fin 4 × Fin 4) ∈ sigs c := by
    unfold sigs; rw [Finset.mem_filter]; exact ⟨Finset.mem_univ _, hz.symm⟩
  have hp : barPay (F := F) (peer 0 s c) (0, rslot 0 s c) = landPts c 0 s := (if_pos rfl).trans (dest_land c 0 s)
  refine BIBase.Entails.trans ?_ (step_signal X K c hn hm (O + zSigs c (S.erase s)) hw)
  rw [zSigs_split hs, hp]
  unfold sigReady
  iintro ⟨⟨Hl, Ht⟩, ⟨#HE, HO⟩, HK⟩
  isplitr; · iexact HE
  isplitl [HO]; · iexact HO
  isplitl [Ht]; · iexact Ht
  isplitl [Hl]; · iexact Hl
  iintro HO
  iapply HK
  isplitr; · iempintro
  isplitr; · iexact HE
  iexact HO

/-- A slot is among those still to be handled. -/
theorem mem_left1 (c : Dev nD) : zOf c ≠ 1 ↔ 1 ∈ (others c).erase 0 := by simp [mem_others]
/-- The third slot is another's exactly when it is still due. -/
theorem mem_left2 (c : Dev nD) : zOf c ≠ 2 ↔ 2 ∈ ((others c).erase 0).erase 1 := by simp [mem_others]
/-- The same of the fourth. -/
theorem mem_left3 (c : Dev nD) : zOf c ≠ 3 ↔ 3 ∈ (((others c).erase 0).erase 1).erase 2 := by simp [mem_others]
/-- After the four sections no slot is due. -/
theorem none_left : ∀ c : Dev nD, ((((others c).erase 0).erase 1).erase 2).erase 3 = ∅ := by decide +kernel

/-- What the opening leaves: the device's own quarter in place, the signals along `z` paid. -/
def opened (X : Inputs F) (c : Dev nD) (O : 𝕋) (r : Σ' (_ : Dev nD) (_ : BitVec 32) (_ : BitVec 32) (_ : BitVec 32) (_ : BitVec 32) (_ : Sems sig S_) (_ : BitVec 32), BitVec 32) : sProp 𝕄 :=
  iprop(⌜r.1 = c ∧ r.2.2.2.2.2.1 = SemArray.scalar (sig.barrier 0 rfl)⌝ ∗ owesAny c O ∗ xPts X c ∗ blkPts c (zOf c) (qOf c) fullShare (outAt X c))

/-- The printed word one is the number one. -/
theorem word_one : (1#32).toInt = ((1 : ℕ) : ℤ) := by decide

/-- The kernel's opening: the device copies its own quarter and signals along `z`. -/
theorem part11 (X : Inputs F) (K : Dev nD × CellIx → ℕ) (c : Dev nD) (O : 𝕋) :
    iprop(env X K ∗ owesAny c (O + zSigs c (others c)) ∗ xPts X c ∗ (∃ g, blkPts c (zOf c) (qOf c) fullShare g) ∗ bigSep (others c) (sigReady c))
      ⊢ wpc c (k0_part11 xM (Memref.isWhole_whole _) oM (Memref.isWhole_whole _) (scr 0 0) (scr 1 0) (scr 0 1) (scr 1 1) (scr 0 2) (scr 1 2) (scr 0 3) (scr 1 3))
          (opened X c O) := by
  rw [k0_part11_eq_skeleton]
  unfold k0_part11_skel
  simp (config := {zeta := false}) only [semSignalWord, Prog.lift, Prog.bind_op, Prog.bind_ret, Prog.pure_eq_ret]
  rw [wpc_deviceId]
  extract_lets v0 v1 v2 v4 v5 v7 v8 v9 v10 v11 v19 v32 jp4 jp3 jp2 jp1
  have h4 : iprop(SigLoop X K c O (((((others c).erase 0).erase 1).erase 2).erase 3) ∗ (xPts X c ∗ blkPts c (zOf c) (qOf c) fullShare (outAt X c)))
      ⊢ wpc c (jp4 ⟨⟩) (opened X c O) := by
    show _ ⊢ wpc c (Prog.ret _) _
    unfold wpc
    rw [wp_ret]
    unfold opened
    iintro ⟨HL, Hx, Hb⟩
    ihave H := (loop_end _ (none_left c) _ _ _) $$ HL
    icases H with ⟨-, -, HO⟩
    imodintro
    isplitr; · ipureintro; exact ⟨rfl, rfl⟩
    isplitl [HO]; · rw [zSigs_empty, add_zero]; iexact HO
    isplitl [Hx] <;> iassumption
  have h3 : iprop(SigLoop X K c O ((((others c).erase 0).erase 1).erase 2) ∗ (xPts X c ∗ blkPts c (zOf c) (qOf c) fullShare (outAt X c)))
      ⊢ wpc c (jp3 ⟨⟩) (opened X c O) :=
    wp_section ((cond_sig c).2.2.2.trans (mem_left3 c)) jp4 (fun _ => rfl) h4
      fun hs h => zsig_step X K c O (n := ⟨k0_dev4 c, k0_dev4_lt c h⟩) hs ((mem_left3 c).mpr hs) (dev_sig c).2.2.2.1 word_one
  have h2 : iprop(SigLoop X K c O (((others c).erase 0).erase 1) ∗ (xPts X c ∗ blkPts c (zOf c) (qOf c) fullShare (outAt X c)))
      ⊢ wpc c (jp2 ⟨⟩) (opened X c O) :=
    wp_section ((cond_sig c).2.2.1.trans (mem_left2 c)) jp3 (fun _ => rfl) h3
      fun hs h => zsig_step X K c O (n := ⟨k0_dev3 c, k0_dev3_lt c h⟩) hs ((mem_left2 c).mpr hs) (dev_sig c).2.2.1 word_one
  have h1 : iprop(SigLoop X K c O ((others c).erase 0) ∗ (xPts X c ∗ blkPts c (zOf c) (qOf c) fullShare (outAt X c)))
      ⊢ wpc c (jp1 ⟨⟩) (opened X c O) :=
    wp_section ((cond_sig c).2.1.trans (mem_left1 c)) jp2 (fun _ => rfl) h2
      fun hs h => zsig_step X K c O (n := ⟨k0_dev2 c, k0_dev2_lt c h⟩) hs ((mem_left1 c).mpr hs) (dev_sig c).2.1 word_one
  have h0 : iprop(SigLoop X K c O (others c) ∗ (xPts X c ∗ blkPts c (zOf c) (qOf c) fullShare (outAt X c)))
      ⊢ wpc c (if h : k0_cond1 c = 1#1 then .op (.semSignal (Dev.tc ⟨k0_dev1 c, k0_dev1_lt c h⟩) barS (1#32).toInt) (fun _ => jp1 ⟨⟩) else jp1 ⟨⟩) (opened X c O) :=
    wp_section ((cond_sig c).1.trans (mem_others c 0).symm) jp1 (fun _ => rfl) h1
      fun hs h => zsig_step X K c O (n := ⟨k0_dev1 c, k0_dev1_lt c h⟩) hs ((mem_others c 0).mp hs) (dev_sig c).1 word_one
  refine BIBase.Entails.trans ?_ (step_store X c (off_own c).1 (off_own c).2 shapeCasts_S256x512_S256x512)
  iintro ⟨#HE, HO, Hx, Hb, Hs⟩
  isplitl [Hx]; · iexact Hx
  isplitl [Hb]; · iexact Hb
  iintro ⟨Hx, Hb⟩
  iapply h0
  isplitr [Hx Hb]
  · iapply (loop_start (others c))
    isplitl [Hs]; · iexact Hs
    isplitr; · iexact HE
    iexact HO
  isplitl [Hx] <;> iassumption

end Cert.GatherProof
end
-- ==== Proof.Handshake.lean ====
/-
# The handshake with the mates, the barrier and the first transfers
-/
module

public import proofs.«01_k».proof.Proof.Sections
public import proofs.«01_k».proof.Proof.Start

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

attribute [local irreducible] k0_cond5 k0_cond6 k0_dev5 k0_dev6 k0_dev7 k0_dev8 k0_dev9 k0_off3 k0_off4 k0_off5 k0_off6

/-- What the handshake takes: the tokens of the signals to the mates and the blocks they are to fill, the right to pass the
    barrier, and what the transfers along `z` need of the device's own. -/
def meetReady (X : Inputs F) (c : Dev nD) : sProp 𝕄 :=
  iprop((sigTok c 1 (zOf c) ∗ bigSep (others c) (landPts (F := F) c 1)) ∗ (sigTok c 2 (zOf c) ∗ bigSep (others c) (landPts (F := F) c 2))
    ∗ (sigTok c 3 (zOf c) ∗ bigSep (others c) (landPts (F := F) c 3)) ∗ (cred (tallyAt (barCell c) () 6) ∗ atPos ER (barCell c) 0 ∅ 0)
    ∗ bigSep (others c) (sendReady c 0) ∗ bigSep (others c) (sendPay X c 0))
/-- What the barrier gives beyond the blocks for the transfers along `z`. -/
def met (c : Dev nD) : sProp 𝕄 :=
  iprop(atPos ER (barCell c) 1 ∅ 0 ∗ bigSep (others c) (destPts (F := F) c 1) ∗ bigSep (others c) (destPts (F := F) c 2) ∗ bigSep (others c) (destPts (F := F) c 3))

/-- The printed word six is the number six. -/
theorem word_six : (6#32).toInt = ((6 : ℕ) : ℤ) := by decide

/-- The handshake with the mates, the barrier, and the transfers along `z` to slots 0 and 1. -/
theorem part12 (X : Inputs F) (K : Dev nD × CellIx → ℕ) (c : Dev nD) (v2 v5 v8 v11 v32 w : BitVec 32) :
    iprop(env X K ∗ owesAny c (Omate c) ∗ meetReady X c)
      ⊢ wpc c (k0_part12 xM (Memref.isWhole_whole _) oM (Memref.isWhole_whole _) (scr 0 0) (scr 1 0) (scr 0 1) (scr 1 1) (scr 0 2) (scr 1 2) (scr 0 3) (scr 1 3)
          c v2 v5 v8 v11 (SemArray.scalar (sig.barrier 0 rfl)) v32 w)
          (fun _ => iprop(SendLoop X K c (((others c).erase 0).erase 1) ∗ met c)) := by
  rw [k0_part12_eq_skeleton]
  unfold k0_part12_skel
  simp (config := {zeta := false}) only [semSignalWord, semWaitWord, Prog.lift, Prog.bind_op, Prog.bind_ret, Prog.pure_eq_ret]
  extract_lets v60 v61 jp2 v148 v149 jp1 u148 u149
  have h2 : iprop(SendLoop X K c (((others c).erase 0).erase 1) ∗ met c)
      ⊢ wpc c (jp2 ⟨⟩) (fun _ => iprop(SendLoop X K c (((others c).erase 0).erase 1) ∗ met c)) := by
    show _ ⊢ wpc c (Prog.ret _) _
    unfold wpc
    rw [wp_ret]
    iintro H
    imodintro
    iexact H
  have h1 : iprop(SendLoop X K c ((others c).erase 0) ∗ met c)
      ⊢ wpc c (jp1 ⟨⟩) (fun _ => iprop(SendLoop X K c (((others c).erase 0).erase 1) ∗ met c)) :=
    wp_section ((cond_zsend c).2.1.trans (mem_left1 c)) jp2 (fun _ => rfl) h2
      fun hs h => zsend_step X K c (n := ⟨k0_dev9 c, k0_dev9_lt c h⟩) hs ((mem_left1 c).mpr hs) (dev_zsend c).2.1 rfl (off_zsem c).2.1 (off_zblk c).2.1
  have h0 : iprop(SendLoop X K c (others c) ∗ met c) ⊢ wpc c _ (fun _ => iprop(SendLoop X K c (((others c).erase 0).erase 1) ∗ met c)) :=
    wp_section ((cond_zsend c).1.trans (mem_others c 0).symm) jp1 (fun _ => rfl) h1
      fun hs h => zsend_step X K c (n := ⟨k0_dev8 c, k0_dev8_lt c h⟩) hs ((mem_others c 0).mp hs) (dev_zsend c).1 (o1 := ![0]) rfl (i1 := inb_S4_S1_0)
        (off_zsem c).1 (i2 := k0_off3_inb c h) (off_zblk c).1 (i3 := k0_off4_inb c h) (hsc := rfl) (hsrc := (Memref.isWhole_whole _).wordExact_slice rfl _ (k0_off4_wordsbf16 c h))
        (hdst := (Memref.isWhole_whole _).wordExact_slice rfl _ (k0_off4_wordsbf16 c h)) (hsem := ⟨⟨rfl, Or.inl rfl⟩, trivial⟩)
  have e4 := fun k => step_barrier X K c (above_xfers c) word_six (k := k) (Q := fun _ : (_ : BitVec 32) ×' BitVec 32 => iprop(SendLoop X K c (((others c).erase 0).erase 1) ∗ met c))
  have e3 := fun k => mate_step X K c (i := 3) (by decide) (dev_sig c).2.2.2.2.2.2 (n := ⟨k0_dev7 c, k0_dev7_lt c⟩) (Oxfer c) word_one
    (k := k) (Q := fun _ : (_ : BitVec 32) ×' BitVec 32 => iprop(SendLoop X K c (((others c).erase 0).erase 1) ∗ met c))
  have e2 := fun k => mate_step X K c (i := 2) (by decide) (dev_sig c).2.2.2.2.2.1 (n := ⟨k0_dev6 c, k0_dev6_lt c⟩) (Oxfer c + sigDebt c 3 (zOf c)) word_one
    (k := k) (Q := fun _ : (_ : BitVec 32) ×' BitVec 32 => iprop(SendLoop X K c (((others c).erase 0).erase 1) ∗ met c))
  have e1 := fun k => mate_step X K c (i := 1) (by decide) (dev_sig c).2.2.2.2.1 (n := ⟨k0_dev5 c, k0_dev5_lt c⟩) (Oxfer c + sigDebt c 3 (zOf c) + sigDebt c 2 (zOf c)) word_one
    (k := k) (Q := fun _ : (_ : BitVec 32) ×' BitVec 32 => iprop(SendLoop X K c (((others c).erase 0).erase 1) ∗ met c))
  unfold meetReady Omate
  iintro ⟨#HE, HO, ⟨Ht1, Hl1⟩, ⟨Ht2, Hl2⟩, ⟨Ht3, Hl3⟩, ⟨Hc, Ha⟩, Hr, Hp⟩
  iapply (e1 _)
  isplitr; · iexact HE
  isplitl [HO]; · iexact HO
  isplitl [Ht1]; · iexact Ht1
  isplitl [Hl1]; · iexact Hl1
  iintro HO
  iapply (e2 _)
  isplitr; · iexact HE
  isplitl [HO]; · iexact HO
  isplitl [Ht2]; · iexact Ht2
  isplitl [Hl2]; · iexact Hl2
  iintro HO
  iapply (e3 _)
  isplitr; · iexact HE
  isplitl [HO]; · iexact HO
  isplitl [Ht3]; · iexact Ht3
  isplitl [Hl3]; · iexact Hl3
  iintro HO
  iapply (e4 _)
  isplitr; · iexact HE
  isplitl [HO]; · iexact HO
  isplitl [Hc]; · iexact Hc
  isplitl [Ha]; · iexact Ha
  iintro ⟨HO, Ha, Hd0, Hd⟩
  iapply h0
  isplitr [Ha Hd]
  · iapply (loop_start (others c))
    isplitr [HO]
    · unfold zReady
      rw [bigSep_sep', bigSep_sep']
      isplitl [Hr]; · iexact Hr
      isplitl [Hd0] <;> iassumption
    isplitr; · iexact HE
    iexact HO
  unfold met
  isplitl [Ha] <;> iassumption

end Cert.GatherProof
end
-- ==== Proof.Take.lean ====
/-
# A chunk comes in along `z` and goes out to the first mate
-/
module

public import proofs.«01_k».proof.Proof.Sections

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond13 k0_cond14 k0_cond15 k0_cond16 k0_cond17 k0_cond18
  k0_dev12 k0_dev15 k0_dev18 k0_dev21 k0_dev24 k0_dev27
  k0_off15 k0_off16 k0_off17 k0_off18 k0_off19 k0_off20 k0_off21 k0_off22 k0_off23 k0_off24 k0_off25 k0_off26

section Take
variable (X : Inputs F) (K : Dev nD × CellIx → ℕ) (c : Dev nD) (v2 v5 v8 v11 v : BitVec 32)

/-- What the arrival of chunk `s` and its first transfer take. -/
def takeReady (S : Finset (Fin 4)) (s : Fin 4) : sProp 𝕄 :=
  iprop((recvReady c 0 s ∗ (sendReady c 1 s ∗ destPts (F := F) c 1 s)) ∗ env X K ∗ owesAny c (mDebt c S))

/-- The nearest chunk below. -/
theorem part1 {S : Finset (Fin 4)} (h : k0_cond13 c = 1#1) (hs : fwd 0 c ∈ S) (hz : zOf c ≠ fwd 0 c) :
    takeReady X K c S (fwd 0 c)
      ⊢ wpc c (k0_part1 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 0 c)) := by
  rw [k0_part1_eq_skeleton]
  unfold k0_part1_skel
  simp only [Prog.lift, Prog.bind_op, Prog.bind_ret, Prog.pure_eq_ret]
  exact take_step X K c (n := ⟨k0_dev12 c, k0_dev12_lt c h⟩) hs hz (dev_fwd0 c).1 ((off_fwd_sem c).1 hz) ((off_fwd_blk c).1 hz)

/-- The nearest chunk above. -/
theorem part2 {S : Finset (Fin 4)} (h : k0_cond14 c = 1#1) (hs : fwd 1 c ∈ S) (hz : zOf c ≠ fwd 1 c) :
    takeReady X K c S (fwd 1 c)
      ⊢ wpc c (k0_part2 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 1 c)) := by
  rw [k0_part2_eq_skeleton]
  unfold k0_part2_skel
  simp only [Prog.lift, Prog.bind_op, Prog.bind_ret, Prog.pure_eq_ret]
  exact take_step X K c (n := ⟨k0_dev15 c, k0_dev15_lt c h⟩) hs hz (dev_fwd1 c).1 ((off_fwd_sem c).2.1 hz) ((off_fwd_blk c).2.1 hz)

/-- The second chunk below. -/
theorem part3 {S : Finset (Fin 4)} (h : k0_cond15 c = 1#1) (hs : fwd 2 c ∈ S) (hz : zOf c ≠ fwd 2 c) :
    takeReady X K c S (fwd 2 c)
      ⊢ wpc c (k0_part3 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 2 c)) := by
  rw [k0_part3_eq_skeleton]
  unfold k0_part3_skel
  simp only [Prog.lift, Prog.bind_op, Prog.bind_ret, Prog.pure_eq_ret]
  exact take_step X K c (n := ⟨k0_dev18 c, k0_dev18_lt c h⟩) hs hz (dev_fwd2 c).1 ((off_fwd_sem c).2.2.1 hz) ((off_fwd_blk c).2.2.1 hz)

/-- The second chunk above. -/
theorem part4 {S : Finset (Fin 4)} (h : k0_cond16 c = 1#1) (hs : fwd 3 c ∈ S) (hz : zOf c ≠ fwd 3 c) :
    takeReady X K c S (fwd 3 c)
      ⊢ wpc c (k0_part4 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 3 c)) := by
  rw [k0_part4_eq_skeleton]
  unfold k0_part4_skel
  simp only [Prog.lift, Prog.bind_op, Prog.bind_ret, Prog.pure_eq_ret]
  exact take_step X K c (n := ⟨k0_dev21 c, k0_dev21_lt c h⟩) hs hz (dev_fwd3 c).1 ((off_fwd_sem c).2.2.2.1 hz) ((off_fwd_blk c).2.2.2.1 hz)

/-- The third chunk below. -/
theorem part5 {S : Finset (Fin 4)} (h : k0_cond17 c = 1#1) (hs : fwd 4 c ∈ S) (hz : zOf c ≠ fwd 4 c) :
    takeReady X K c S (fwd 4 c)
      ⊢ wpc c (k0_part5 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 4 c)) := by
  rw [k0_part5_eq_skeleton]
  unfold k0_part5_skel
  simp only [Prog.lift, Prog.bind_op, Prog.bind_ret, Prog.pure_eq_ret]
  exact take_step X K c (n := ⟨k0_dev24 c, k0_dev24_lt c h⟩) hs hz (dev_fwd4 c).1 ((off_fwd_sem c).2.2.2.2.1 hz) ((off_fwd_blk c).2.2.2.2.1 hz)

/-- The third chunk above. -/
theorem part6 {S : Finset (Fin 4)} (h : k0_cond18 c = 1#1) (hs : fwd 5 c ∈ S) (hz : zOf c ≠ fwd 5 c) :
    takeReady X K c S (fwd 5 c)
      ⊢ wpc c (k0_part6 xM (Memref.isWhole_whole _) oM (Memref.isWhole_whole _) (scr 0 0) (scr 1 0) (scr 0 1) (scr 1 1) (scr 0 2) (scr 1 2) (scr 0 3) (scr 1 3)
          c v2 v5 v8 v11 v h) (fun _ => fwdBetween X K c S (fwd 5 c)) := by
  rw [k0_part6_eq_skeleton]
  unfold k0_part6_skel
  simp only [Prog.lift, Prog.bind_op, Prog.bind_ret, Prog.pure_eq_ret]
  exact take_step X K c (n := ⟨k0_dev27 c, k0_dev27_lt c h⟩) hs hz (dev_fwd5 c).1 ((off_fwd_sem c).2.2.2.2.2 hz) ((off_fwd_blk c).2.2.2.2.2 hz)

end Take

end Cert.GatherProof
end
-- ==== Proof.Middle.lean ====
/-
# The last transfers along `z`, the copies, and the first chunks passed on
-/
module

public import proofs.«01_k».proof.Proof.Handshake
public import proofs.«01_k».proof.Proof.Take

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond7 k0_cond8 k0_cond9 k0_cond10 k0_cond11 k0_cond12 k0_cond13 k0_cond14
  k0_dev10 k0_dev11 k0_dev12 k0_dev13 k0_dev14 k0_dev15 k0_dev16 k0_dev17
  k0_off7 k0_off8 k0_off9 k0_off10 k0_off11 k0_off12 k0_off13 k0_off14 k0_off15 k0_off16 k0_off17 k0_off18

/-- The slots left while chunks are passed on. -/
theorem fwd_left0 : ∀ c : Dev nD, zOf c ≠ fwd 0 c ↔ fwd 0 c ∈ others c := by decide +kernel
/-- The second chunk passed on is another's exactly when it is still due. -/
theorem fwd_left1 : ∀ c : Dev nD, zOf c ≠ fwd 1 c ↔ fwd 1 c ∈ (others c).erase (fwd 0 c) := by decide +kernel

/-- The quarters left while they are copied. -/
theorem copy_left0 (c : Dev nD) : qOf c ≠ 0 ↔ 0 ∈ othersQ c := (mem_othersQ c 0).symm
/-- The second quarter is another's exactly when its copy is still due. -/
theorem copy_left1 (c : Dev nD) : qOf c ≠ 1 ↔ 1 ∈ (othersQ c).erase 0 := by simp [mem_othersQ]
/-- The same of the third. -/
theorem copy_left2 (c : Dev nD) : qOf c ≠ 2 ↔ 2 ∈ ((othersQ c).erase 0).erase 1 := by simp [mem_othersQ]
/-- The same of the fourth. -/
theorem copy_left3 (c : Dev nD) : qOf c ≠ 3 ↔ 3 ∈ (((othersQ c).erase 0).erase 1).erase 2 := by simp [mem_othersQ]
/-- After the four sections no copy is due. -/
theorem copy_none : ∀ c : Dev nD, ((((othersQ c).erase 0).erase 1).erase 2).erase 3 = ∅ := by decide +kernel

/-- What the middle of the kernel finds beside the transfers along `z`. -/
def midReady (X : Inputs F) (c : Dev nD) : sProp 𝕄 :=
  iprop(xPts X c ∗ (bigSep (othersQ c) fun j => iprop(∃ g, blkPts (F := F) c (zOf c) j fullShare g)) ∗ bigSep (others c) (fwdReady c))
/-- What it leaves beside the chunks passed on: the transfers along `z` under way and the device's own chunk in place. -/
def midDone (X : Inputs F) (c : Dev nD) : sProp 𝕄 :=
  iprop(bigSep (others c) (sendSent (F := F) c 0) ∗ (bigSep (othersQ c) fun j => blkPts c (zOf c) j fullShare (outAt X c)) ∗ xPts X c)

/-- From the transfers along `z` to the copies, -/
theorem send_to_copy (X : Inputs F) (K : Dev nD × CellIx → ℕ) (c : Dev nD) {S : Finset (Fin 4)} (hS : S = ∅) :
    iprop(SendLoop X K c S ∗ midReady X c) ⊢ iprop(CopyLoop X c (othersQ c) ∗ (bigSep (others c) (sendSent (F := F) c 0) ∗ bigSep (others c) (fwdReady c)
        ∗ (env X K ∗ owesAny c (mDebt c (others c))))) := by
  unfold midReady
  iintro ⟨HL, Hx, Hg, Hf⟩
  ihave H := (loop_end _ hS _ _ _) $$ HL
  icases H with ⟨Hs, HE, HO⟩
  rw [zDebt_empty, add_zero]
  isplitl [Hx Hg]
  · iapply (loop_start (othersQ c))
    isplitl [Hg] <;> iassumption
  isplitl [Hs]; · iexact Hs
  isplitl [Hf]; · iexact Hf
  isplitl [HE] <;> iassumption

/-- and from the copies to the chunks passed on. -/
theorem copy_to_fwd (X : Inputs F) (K : Dev nD × CellIx → ℕ) (c : Dev nD) {S : Finset (Fin 4)} (hS : S = ∅) :
    iprop(CopyLoop X c S ∗ (bigSep (others c) (sendSent (F := F) c 0) ∗ bigSep (others c) (fwdReady c) ∗ (env X K ∗ owesAny c (mDebt c (others c)))))
      ⊢ iprop(FwdLoop X K c (others c) ∗ midDone X c) := by
  unfold midDone
  iintro ⟨HL, Hs, Hf, HI⟩
  ihave H := (loop_end _ hS _ _ _) $$ HL
  icases H with ⟨Hb, Hx⟩
  isplitl [Hf HI]
  · iapply (loop_start (others c))
    isplitl [Hf] <;> iassumption
  isplitl [Hs]; · iexact Hs
  isplitl [Hb] <;> iassumption

/-- The middle of the kernel: the transfers along `z` to slots 2 and 3, the copies of the other quarters of the device's own
    chunk, and the nearest chunks on each side passed on. -/
theorem part13 (X : Inputs F) (K : Dev nD × CellIx → ℕ) (c : Dev nD) {A : Fin 2 → Fin 4 → DmaSems sig S4} (hA : A = scr) (v2 v5 v8 v11 v61 w : BitVec 32) :
    iprop(SendLoop X K c (((others c).erase 0).erase 1) ∗ midReady X c)
      ⊢ wpc c (k0_part13 xM (Memref.isWhole_whole _) oM (Memref.isWhole_whole _) (scr 0 0) (scr 1 0) (A 0 1) (A 1 1) (A 0 2) (A 1 2) (A 0 3) (A 1 3)
          c v2 v5 v8 v11 v61 w)
          (fun _ => iprop(FwdLoop X K c (((others c).erase (fwd 0 c)).erase (fwd 1 c)) ∗ midDone X c)) := by
  rw [k0_part13_eq_skeleton]
  unfold k0_part13_skel
  simp (config := {zeta := false}) only [Prog.lift, Prog.bind_op, Prog.bind_ret, Prog.pure_eq_ret]
  extract_lets v80 v86 v92 jend j14 j13 j12 j11 j10 j9 v148 v149 j8 u148 u149
  set Q : ((_ : BitVec 32) ×' BitVec 32) → sProp (MT nD τ sig Unit (Elt F) ℕ UU ℕ) :=
    fun _ => iprop(FwdLoop X K c (((others c).erase (fwd 0 c)).erase (fwd 1 c)) ∗ midDone X c) with hQ
  have eend : jend ⟨⟩ = Prog.ret _ := rfl
  have e14 : j14 ⟨⟩ = dite (k0_cond14 c = 1#1) _ _ := rfl
  have e13 : j13 ⟨⟩ = dite (k0_cond13 c = 1#1) _ _ := rfl
  have e12 : j12 ⟨⟩ = dite (k0_cond12 c = 1#1) _ _ := rfl
  have e11 : j11 ⟨⟩ = dite (k0_cond11 c = 1#1) _ _ := rfl
  have e10 : j10 ⟨⟩ = dite (k0_cond10 c = 1#1) _ _ := rfl
  have e9 : j9 ⟨⟩ = dite (k0_cond9 c = 1#1) _ _ := rfl
  have e8 : j8 ⟨⟩ = dite (k0_cond8 c = 1#1) _ _ := rfl
  obtain ⟨kend, qend⟩ : ∃ k, k = jend := ⟨_, rfl⟩
  rw [← qend] at eend e14
  obtain ⟨k14, q14⟩ : ∃ k, k = j14 := ⟨_, rfl⟩
  rw [← q14] at e14 e13
  obtain ⟨k13, q13⟩ : ∃ k, k = j13 := ⟨_, rfl⟩
  rw [← q13] at e13 e12
  obtain ⟨k12, q12⟩ : ∃ k, k = j12 := ⟨_, rfl⟩
  rw [← q12] at e12 e11
  obtain ⟨k11, q11⟩ : ∃ k, k = j11 := ⟨_, rfl⟩
  rw [← q11] at e11 e10
  obtain ⟨k10, q10⟩ : ∃ k, k = j10 := ⟨_, rfl⟩
  rw [← q10] at e10 e9
  obtain ⟨k9, q9⟩ : ∃ k, k = j9 := ⟨_, rfl⟩
  rw [← q9] at e9 e8
  obtain ⟨k8, q8⟩ : ∃ k, k = j8 := ⟨_, rfl⟩
  rw [← q8] at e8
  rw [← q8]
  have hend : iprop(FwdLoop X K c (((others c).erase (fwd 0 c)).erase (fwd 1 c)) ∗ midDone X c) ⊢ wpc c (kend ⟨⟩) Q := by
    rw [eend]
    unfold wpc
    rw [wp_ret]
    iintro H
    imodintro
    iexact H
  have h14 : iprop(FwdLoop X K c ((others c).erase (fwd 0 c)) ∗ midDone X c) ⊢ wpc c (k14 ⟨⟩) Q := by
    rw [e14]
    refine wp_section ((cond_fwd c).2.1.trans (fwd_left1 c)) kend (fun _ => rfl) hend fun hs h => ?_
    have hz := (fwd_left1 c).mpr hs
    have e := fwd_named X K c hA (k := fun _ => kend ⟨⟩) (Q := Q) (n2 := ⟨k0_dev16 c, k0_dev16_lt c h⟩) (n3 := ⟨k0_dev17 c, k0_dev17_lt c h⟩) hz
      (S := (others c).erase (fwd 0 c))
      (p := k0_part2 xM (Memref.isWhole_whole _) oM (Memref.isWhole_whole _) (scr 0 0) (scr 1 0) (A 0 1) (A 1 1) (A 0 2) (A 1 2) (A 0 3) (A 1 3) c v2 v5 v8 v11 v86 h)
      (by subst hA; exact part2 X K c v2 v5 v8 v11 v86 h hs hz) (dev_fwd1 c).2.1 (dev_fwd1 c).2.2 ((off_fwd_sem c).2.1 hz) ((off_fwd_blk c).2.1 hz)
      (i1 := k0_off17_inb c h) (i3 := k0_off18_inb c h) (wx := (Memref.isWhole_whole _).wordExact_slice rfl _ (k0_off18_wordsbf16 c h))
      (hsc := rfl) (t2 := ⟨⟨rfl, Or.inl rfl⟩, trivial⟩) (t3 := ⟨⟨rfl, Or.inl rfl⟩, trivial⟩)
    exact wpc_eq rfl e
  have h13 : iprop(FwdLoop X K c (others c) ∗ midDone X c) ⊢ wpc c (k13 ⟨⟩) Q := by
    rw [e13]
    refine wp_section ((cond_fwd c).1.trans (fwd_left0 c)) k14 (fun _ => rfl) h14 fun hs h => ?_
    have hz := (fwd_left0 c).mpr hs
    have e := fwd_named X K c hA (k := fun _ => k14 ⟨⟩) (Q := Q) (n2 := ⟨k0_dev13 c, k0_dev13_lt c h⟩) (n3 := ⟨k0_dev14 c, k0_dev14_lt c h⟩) hz
      (S := others c)
      (p := k0_part1 xM (Memref.isWhole_whole _) oM (Memref.isWhole_whole _) (scr 0 0) (scr 1 0) (A 0 1) (A 1 1) (A 0 2) (A 1 2) (A 0 3) (A 1 3) c v2 v5 v8 v11 v80 h)
      (by subst hA; exact part1 X K c v2 v5 v8 v11 v80 h hs hz) (dev_fwd0 c).2.1 (dev_fwd0 c).2.2 ((off_fwd_sem c).1 hz) ((off_fwd_blk c).1 hz)
      (i1 := k0_off15_inb c h) (i3 := k0_off16_inb c h) (wx := (Memref.isWhole_whole _).wordExact_slice rfl _ (k0_off16_wordsbf16 c h))
      (hsc := rfl) (t2 := ⟨⟨rfl, Or.inl rfl⟩, trivial⟩) (t3 := ⟨⟨rfl, Or.inl rfl⟩, trivial⟩)
    exact wpc_eq rfl e
  have h12 : iprop(CopyLoop X c ((((othersQ c).erase 0).erase 1).erase 2) ∗ (bigSep (others c) (sendSent (F := F) c 0) ∗ bigSep (others c) (fwdReady c) ∗ (env X K ∗ owesAny c (mDebt c (others c))))) ⊢ wpc c (k12 ⟨⟩) Q := by
    rw [e12]
    refine wp_section ((cond_store c).2.2.2.trans (copy_left3 c)) k13 (fun _ => rfl) ((copy_to_fwd X K c (copy_none c)).trans h13) fun hs h => ?_
    refine copy_step X c (k := fun _ => k13 ⟨⟩) (Q := Q) (j := 3) (o1 := ![768, 0]) (by decide) (off_store c).2.2.2
      (i1 := inb_S1024x512_S256x512_768_0) (i2 := k0_off14_inb c h)
  have h11 : iprop(CopyLoop X c (((othersQ c).erase 0).erase 1) ∗ (bigSep (others c) (sendSent (F := F) c 0) ∗ bigSep (others c) (fwdReady c) ∗ (env X K ∗ owesAny c (mDebt c (others c))))) ⊢ wpc c (k11 ⟨⟩) Q := by
    rw [e11]
    refine wp_section ((cond_store c).2.2.1.trans (copy_left2 c)) k12 (fun _ => rfl) h12 fun hs h => ?_
    refine copy_step X c (k := fun _ => k12 ⟨⟩) (Q := Q) (j := 2) (o1 := ![512, 0]) (by decide) (off_store c).2.2.1
      (i1 := inb_S1024x512_S256x512_512_0) (i2 := k0_off13_inb c h)
  have h10 : iprop(CopyLoop X c ((othersQ c).erase 0) ∗ (bigSep (others c) (sendSent (F := F) c 0) ∗ bigSep (others c) (fwdReady c) ∗ (env X K ∗ owesAny c (mDebt c (others c))))) ⊢ wpc c (k10 ⟨⟩) Q := by
    rw [e10]
    refine wp_section ((cond_store c).2.1.trans (copy_left1 c)) k11 (fun _ => rfl) h11 fun hs h => ?_
    refine copy_step X c (k := fun _ => k11 ⟨⟩) (Q := Q) (j := 1) (o1 := ![256, 0]) (by decide) (off_store c).2.1
      (i1 := inb_S1024x512_S256x512_256_0) (i2 := k0_off12_inb c h)
  have h9 : iprop(CopyLoop X c (othersQ c) ∗ (bigSep (others c) (sendSent (F := F) c 0) ∗ bigSep (others c) (fwdReady c) ∗ (env X K ∗ owesAny c (mDebt c (others c))))) ⊢ wpc c (k9 ⟨⟩) Q := by
    rw [e9]
    refine wp_section ((cond_store c).1.trans (copy_left0 c)) k10 (fun _ => rfl) h10 fun hs h => ?_
    refine copy_step X c (k := fun _ => k10 ⟨⟩) (Q := Q) (j := 0) (o1 := ![0, 0]) (by decide) (off_store c).1
      (i1 := inb_S1024x512_S256x512_0_0) (i2 := k0_off11_inb c h)
  have h8 : iprop(SendLoop X K c ((((others c).erase 0).erase 1).erase 2) ∗ midReady X c) ⊢ wpc c (k8 ⟨⟩) Q := by
    rw [e8]
    refine wp_section ((cond_zsend c).2.2.2.trans (mem_left3 c)) k9 (fun _ => rfl) ((send_to_copy X K c (none_left c)).trans h9) fun hs h => ?_
    have hz := (mem_left3 c).mpr hs
    have e := zsend_step X K c (k := fun _ => k9 ⟨⟩) (Q := Q) (n := ⟨k0_dev11 c, k0_dev11_lt c h⟩) hs hz (dev_zsend c).2.2.2 (o1 := ![3]) rfl (i1 := inb_S4_S1_3)
      (off_zsem c).2.2.2 (i2 := k0_off9_inb c h) (off_zblk c).2.2.2 (i3 := k0_off10_inb c h) (hsc := rfl)
      (hsrc := (Memref.isWhole_whole _).wordExact_slice rfl _ (k0_off10_wordsbf16 c h))
      (hdst := (Memref.isWhole_whole _).wordExact_slice rfl _ (k0_off10_wordsbf16 c h)) (hsem := ⟨⟨rfl, Or.inl rfl⟩, trivial⟩)
    exact wpc_eq rfl e
  refine wp_section ((cond_zsend c).2.2.1.trans (mem_left2 c)) k8 (fun _ => rfl) h8 fun hs h => ?_
  have hz := (mem_left2 c).mpr hs
  have e := zsend_step X K c (k := fun _ => k8 ⟨⟩) (Q := Q) (n := ⟨k0_dev10 c, k0_dev10_lt c h⟩) hs hz (dev_zsend c).2.2.1 (o1 := ![2]) rfl (i1 := inb_S4_S1_2)
    (off_zsem c).2.2.1 (i2 := k0_off7_inb c h) (off_zblk c).2.2.1 (i3 := k0_off8_inb c h) (hsc := rfl)
    (hsrc := (Memref.isWhole_whole _).wordExact_slice rfl _ (k0_off8_wordsbf16 c h))
    (hdst := (Memref.isWhole_whole _).wordExact_slice rfl _ (k0_off8_wordsbf16 c h)) (hsem := ⟨⟨rfl, Or.inl rfl⟩, trivial⟩)
  exact wpc_eq rfl e

end Cert.GatherProof
end
-- ==== Proof.Pairs.lean ====
/-
# Chunks come in from the mates
-/
module

public import proofs.«01_k».proof.Proof.Take

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond15 k0_cond16 k0_cond17 k0_cond18 k0_cond19 k0_cond20 k0_cond21 k0_cond22
  k0_dev18 k0_dev19 k0_dev20 k0_dev21 k0_dev22 k0_dev23 k0_dev24 k0_dev25 k0_dev26 k0_dev27 k0_dev28 k0_dev29
  k0_off19 k0_off20 k0_off21 k0_off22 k0_off23 k0_off24 k0_off25 k0_off26 k0_off27 k0_off28 k0_off29 k0_off30 k0_off31 k0_off32 k0_off33 k0_off34 k0_off35 k0_off36 k0_off37 k0_off38

section Pairs
variable (X : Inputs F) (K : Dev nD × CellIx → ℕ) (c : Dev nD)
variable {α : Type} {Q : α → sProp (MT nD τ sig Unit (Elt F) ℕ UU ℕ)}
variable {k : PUnit.{1} → Prog (TpuEff nD τ sig (Elt F) Λ₀ .tc) α}

/-- What is there once chunk `s` has come in from the first two mates. -/
def pairDone (s : Fin 4) : sProp 𝕄 := iprop((landed X c 1 s ∗ landed X c 2 s) ∗ env X K ∗ owesAny c 0)

/-- Chunk `s` comes in from the first two mates. -/
theorem pair_step {s : Fin 4} (hz : zOf c ≠ s) {o : Fin 1 → ℕ} (h1 : o = semOff s) {a b : Fin 2 → ℕ}
    {i1 : ∀ a, o a + S1.size a ≤ S4.size a} {ia : ∀ j, a j + S256x512.size j ≤ S4096x512.size j}
    {ib : ∀ j, b j + S256x512.size j ≤ S4096x512.size j}
    {wa : (outSl a ia).view.WordExact} {wb : (outSl b ib).view.WordExact} (v : BitVec 32) :
    iprop((recvReady c 1 s ∗ recvReady c 2 s) ∗ env X K ∗ owesAny c 0)
      ⊢ wpc c (.op (.waitDma2 (semSl 1 1 o i1) (outSl a ia) (outSl a ia) wa wa) fun _ =>
          .op (.waitDma2 (semSl 1 2 o i1) (outSl b ib) (outSl b ib) wb wb) fun _ => .ret v) (fun _ => pairDone X K c s) := by
  have e2 := landed_step X K c (i := 2) (Q := fun _ => pairDone X K c s) (k := fun _ => .ret v)
    hz (le_refl 3) h1 (i1 := i1) (i3 := ib) (wx := wb)
  have e1 := landed_step X K c (i := 1) (Q := fun _ => pairDone X K c s) (k := fun _ => .op (.waitDma2 (semSl 1 2 o i1) (outSl b ib) (outSl b ib) wb wb) fun _ => .ret v)
    hz (le_refl 3) h1 (i1 := i1) (i3 := ia) (wx := wa)
  iintro ⟨⟨H1, H2⟩, #HE, HO⟩
  iapply e1
  isplitr; · iexact HE
  isplitl [HO]; · iexact HO
  isplitl [H1]; · iexact H1
  iintro ⟨HO, H1⟩
  iapply e2
  isplitr; · iexact HE
  isplitl [HO]; · iexact HO
  isplitl [H2]; · iexact H2
  iintro ⟨HO, H2⟩
  unfold wpc
  rw [wp_ret]
  imodintro
  unfold pairDone
  isplitr [HO]
  · isplitl [H1] <;> iassumption
  isplitr; · iexact HE
  iexact HO

/-- Chunk `s` comes in from the three mates: `p` is its arrival from the first two. The scratch arrays may go under other names. -/
theorem third_step {A : Fin 2 → Fin 4 → DmaSems sig S4} (hA : A = scr) {s : Fin 4} (hz : zOf c ≠ s)
    {p : Prog (TpuEff nD τ sig (Elt F) Λ₀ .tc) (BitVec 32)}
    (hp : iprop((recvReady c 1 s ∗ recvReady c 2 s) ∗ env X K ∗ owesAny c 0) ⊢ wpc c p (fun _ => pairDone X K c s))
    {o : Fin 1 → ℕ} (h1 : o = semOff s) {d : Fin 2 → ℕ}
    {i1 : ∀ a, o a + S1.size a ≤ S4.size a} {id : ∀ j, d j + S256x512.size j ≤ S4096x512.size j} {wd : (outSl d id).view.WordExact} :
    iprop(matesReady c s ∗ (env X K ∗ owesAny c 0) ∗ ((matesDone X c s ∗ (env X K ∗ owesAny c 0)) -∗ wpc c (k ⟨⟩) Q))
      ⊢ wpc c (p >>= fun _ => .op (.waitDma2 (semOf (A 1 3) o i1) (outSl d id) (outSl d id) wd wd) k) Q := by
  subst hA
  have e3 := landed_step X K c (i := 3) (Q := Q) (k := k) hz (le_refl 3) h1 (i1 := i1) (i3 := id) (wx := wd)
  rw [show wpc c (p >>= fun _ => .op (.waitDma2 (semOf (scr 1 3) o i1) (outSl d id) (outSl d id) wd wd) k) Q
      = wpc c p fun _ => wpc c (.op (.waitDma2 (semSl 1 3 o i1) (outSl d id) (outSl d id) wd wd) k) Q from wp_bind _ _ _ _ _ _]
  unfold matesReady matesDone
  iintro ⟨⟨H1, H2, H3⟩, HI, HK⟩
  iapply (wp_wand_r Idealize.ShloMosaic.frame (wpE (defs₀ (F := F)) 𝒱₀ (c : Thread nD τ) none) Set.univ)
  isplitl [H1 H2 HI]
  · iapply hp
    isplitr [HI]
    · isplitl [H1] <;> iassumption
    iexact HI
  unfold pairDone
  iintro %r ⟨⟨H1, H2⟩, #HE, HO⟩
  iapply e3
  isplitr; · iexact HE
  isplitl [HO]; · iexact HO
  isplitl [H3]; · iexact H3
  iintro ⟨HO, H3⟩
  iapply HK
  isplitr [HO]
  · isplitl [H1]; · iexact H1
    isplitl [H2] <;> iassumption
  isplitr; · iexact HE
  iexact HO

/-- The four slots, in turn. -/
theorem part7 (v2 v5 v8 : BitVec 32) (h : k0_cond19 c = 1#1) (hz : zOf c ≠ 0) :
    iprop((recvReady (F := F) c 1 0 ∗ recvReady c 2 0) ∗ env X K ∗ owesAny c 0)
      ⊢ wpc c (k0_part7 xM (Memref.isWhole_whole _) oM (Memref.isWhole_whole _) (scr 0 0) (scr 1 0) (scr 0 1) (scr 1 1) (scr 0 2) (scr 1 2) (scr 0 3) (scr 1 3)
          c v2 v5 v8 h) (fun _ => pairDone X K c 0) := by
  rw [k0_part7_eq_skeleton]
  unfold k0_part7_skel
  simp only [Prog.lift, Prog.bind_op, Prog.bind_ret, Prog.pure_eq_ret]
  exact pair_step X K c hz (s := 0) (o := ![0]) rfl _
/-- The same for the slot of this part. -/
theorem part8 (v2 v5 v8 : BitVec 32) (h : k0_cond20 c = 1#1) (hz : zOf c ≠ 1) :
    iprop((recvReady (F := F) c 1 1 ∗ recvReady c 2 1) ∗ env X K ∗ owesAny c 0)
      ⊢ wpc c (k0_part8 xM (Memref.isWhole_whole _) oM (Memref.isWhole_whole _) (scr 0 0) (scr 1 0) (scr 0 1) (scr 1 1) (scr 0 2) (scr 1 2) (scr 0 3) (scr 1 3)
          c v2 v5 v8 h) (fun _ => pairDone X K c 1) := by
  rw [k0_part8_eq_skeleton]
  unfold k0_part8_skel
  simp only [Prog.lift, Prog.bind_op, Prog.bind_ret, Prog.pure_eq_ret]
  exact pair_step X K c hz (s := 1) (o := ![1]) rfl _
/-- The same for the slot of this part. -/
theorem part9 (v2 v5 v8 : BitVec 32) (h : k0_cond21 c = 1#1) (hz : zOf c ≠ 2) :
    iprop((recvReady (F := F) c 1 2 ∗ recvReady c 2 2) ∗ env X K ∗ owesAny c 0)
      ⊢ wpc c (k0_part9 xM (Memref.isWhole_whole _) oM (Memref.isWhole_whole _) (scr 0 0) (scr 1 0) (scr 0 1) (scr 1 1) (scr 0 2) (scr 1 2) (scr 0 3) (scr 1 3)
          c v2 v5 v8 h) (fun _ => pairDone X K c 2) := by
  rw [k0_part9_eq_skeleton]
  unfold k0_part9_skel
  simp only [Prog.lift, Prog.bind_op, Prog.bind_ret, Prog.pure_eq_ret]
  exact pair_step X K c hz (s := 2) (o := ![2]) rfl _
/-- The same for the slot of this part. -/
theorem part10 (v2 v5 v8 : BitVec 32) (h : k0_cond22 c = 1#1) (hz : zOf c ≠ 3) :
    iprop((recvReady (F := F) c 1 3 ∗ recvReady c 2 3) ∗ env X K ∗ owesAny c 0)
      ⊢ wpc c (k0_part10 xM (Memref.isWhole_whole _) oM (Memref.isWhole_whole _) (scr 0 0) (scr 1 0) (scr 0 1) (scr 1 1) (scr 0 2) (scr 1 2) (scr 0 3) (scr 1 3)
          c v2 v5 v8 h) (fun _ => pairDone X K c 3) := by
  rw [k0_part10_eq_skeleton]
  unfold k0_part10_skel
  simp only [Prog.lift, Prog.bind_op, Prog.bind_ret, Prog.pure_eq_ret]
  exact pair_step X K c hz (s := 3) (o := ![3]) rfl _

end Pairs

end Cert.GatherProof
end
-- ==== Proof.Late.lean ====
/-
# The farther chunks passed on, and the chunks from the mates
-/
module

public import proofs.«01_k».proof.Proof.Middle
public import proofs.«01_k».proof.Proof.Pairs

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond15 k0_cond16 k0_cond17 k0_cond18 k0_cond19 k0_cond20 k0_cond21 k0_cond22
  k0_dev18 k0_dev19 k0_dev20 k0_dev21 k0_dev22 k0_dev23 k0_dev24 k0_dev25 k0_dev26 k0_dev27 k0_dev28 k0_dev29
  k0_off19 k0_off20 k0_off21 k0_off22 k0_off23 k0_off24 k0_off25 k0_off26 k0_off27 k0_off28 k0_off29 k0_off30 k0_off31 k0_off32 k0_off33 k0_off34 k0_off35 k0_off36 k0_off37 k0_off38

/-- The slots left while chunks are passed on. -/
theorem fwd_left2 : ∀ c : Dev nD, zOf c ≠ fwd 2 c ↔ fwd 2 c ∈ ((others c).erase (fwd 0 c)).erase (fwd 1 c) := by decide +kernel
/-- The fourth chunk passed on is another's exactly when it is among those still due. -/
theorem fwd_left3 : ∀ c : Dev nD, zOf c ≠ fwd 3 c ↔ fwd 3 c ∈ (((others c).erase (fwd 0 c)).erase (fwd 1 c)).erase (fwd 2 c) := by decide +kernel
/-- The same of the fifth. -/
theorem fwd_left4 : ∀ c : Dev nD, zOf c ≠ fwd 4 c ↔ fwd 4 c ∈ ((((others c).erase (fwd 0 c)).erase (fwd 1 c)).erase (fwd 2 c)).erase (fwd 3 c) := by decide +kernel
/-- The same of the sixth. -/
theorem fwd_left5 : ∀ c : Dev nD, zOf c ≠ fwd 5 c ↔ fwd 5 c ∈ (((((others c).erase (fwd 0 c)).erase (fwd 1 c)).erase (fwd 2 c)).erase (fwd 3 c)).erase (fwd 4 c) := by decide +kernel
/-- After the six sections no chunk is still due. -/
theorem fwd_none : ∀ c : Dev nD, ((((((others c).erase (fwd 0 c)).erase (fwd 1 c)).erase (fwd 2 c)).erase (fwd 3 c)).erase (fwd 4 c)).erase (fwd 5 c) = ∅ := by decide +kernel

/-- From the chunks passed on to the chunks that come in from the mates. -/
theorem fwd_to_mates (X : Inputs F) (K : Dev nD × CellIx → ℕ) (c : Dev nD) {S : Finset (Fin 4)} (hS : S = ∅) :
    iprop(FwdLoop X K c S ∗ bigSep (others c) (matesReady (F := F) c)) ⊢ iprop(MateLoop X K c (others c) ∗ bigSep (others c) (fwdDone X c)) := by
  iintro ⟨HL, Hm⟩
  ihave H := (loop_end _ hS _ _ _) $$ HL
  icases H with ⟨Hf, HI⟩
  rw [mDebt_empty]
  isplitr [Hf]
  · iapply (loop_start (others c))
    isplitl [Hm] <;> iassumption
  iexact Hf

/-- The second and third chunks on each side passed on, and the chunks of slots 0 to 2 in from the mates. The scratch arrays may
    go under other names. -/
theorem part14 (X : Inputs F) (K : Dev nD × CellIx → ℕ) (c : Dev nD) {A : Fin 2 → Fin 4 → DmaSems sig S4} (hA : A = scr) (v2 v5 v8 v11 v92 w : BitVec 32) :
    iprop(FwdLoop X K c (((others c).erase (fwd 0 c)).erase (fwd 1 c)) ∗ bigSep (others c) (matesReady (F := F) c))
      ⊢ wpc c (k0_part14 xM (Memref.isWhole_whole _) oM (Memref.isWhole_whole _) (A 0 0) (A 1 0) (A 0 1) (A 1 1) (A 0 2) (A 1 2) (A 0 3) (A 1 3)
          c v2 v5 v8 v11 v92 w)
          (fun _ => iprop(MateLoop X K c ((((others c).erase 0).erase 1).erase 2) ∗ bigSep (others c) (fwdDone X c))) := by
  obtain ⟨p, hp⟩ : ∃ p, p = k0_part14 (F := F) xM (Memref.isWhole_whole _) oM (Memref.isWhole_whole _) (A 0 0) (A 1 0) (A 0 1) (A 1 1) (A 0 2) (A 1 2) (A 0 3) (A 1 3) c v2 v5 v8 v11 v92 w := ⟨_, rfl⟩
  rw [← hp]
  rw [k0_part14_eq_skeleton] at hp
  unfold k0_part14_skel at hp
  simp (config := {zeta := false}) only [Prog.lift, Prog.bind_op, Prog.bind_ret, Prog.pure_eq_ret] at hp
  extract_lets v98 v104 v110 jend _ _ j21 _ _ j20 _ _ j19 j18 j17 j16 at hp
  set Q : BitVec 32 → sProp (MT nD τ sig Unit (Elt F) ℕ UU ℕ) :=
    fun _ => iprop(MateLoop X K c ((((others c).erase 0).erase 1).erase 2) ∗ bigSep (others c) (fwdDone X c)) with hQ
  have eend : jend ⟨⟩ = Prog.ret _ := rfl
  have e21 : j21 ⟨⟩ = dite (k0_cond21 c = 1#1) _ _ := rfl
  have e20 : j20 ⟨⟩ = dite (k0_cond20 c = 1#1) _ _ := rfl
  have e19 : j19 ⟨⟩ = dite (k0_cond19 c = 1#1) _ _ := rfl
  have e18 : j18 ⟨⟩ = dite (k0_cond18 c = 1#1) _ _ := rfl
  have e17 : j17 ⟨⟩ = dite (k0_cond17 c = 1#1) _ _ := rfl
  have e16 : j16 ⟨⟩ = dite (k0_cond16 c = 1#1) _ _ := rfl
  obtain ⟨kend, qend⟩ : ∃ k, k = jend := ⟨_, rfl⟩
  rw [← qend] at eend e21
  obtain ⟨k21, q21⟩ : ∃ k, k = j21 := ⟨_, rfl⟩
  rw [← q21] at e21 e20
  obtain ⟨k20, q20⟩ : ∃ k, k = j20 := ⟨_, rfl⟩
  rw [← q20] at e20 e19
  obtain ⟨k19, q19⟩ : ∃ k, k = j19 := ⟨_, rfl⟩
  rw [← q19] at e19 e18
  obtain ⟨k18, q18⟩ : ∃ k, k = j18 := ⟨_, rfl⟩
  rw [← q18] at e18 e17
  obtain ⟨k17, q17⟩ : ∃ k, k = j17 := ⟨_, rfl⟩
  rw [← q17] at e17 e16
  obtain ⟨k16, q16⟩ : ∃ k, k = j16 := ⟨_, rfl⟩
  rw [← q16] at e16
  rw [← q16] at hp
  have hend : iprop(MateLoop X K c ((((others c).erase 0).erase 1).erase 2) ∗ bigSep (others c) (fwdDone X c)) ⊢ wpc c (kend ⟨⟩) Q := by
    rw [eend]
    unfold wpc
    rw [wp_ret]
    iintro H
    imodintro
    iexact H
  have h21 : iprop(MateLoop X K c (((others c).erase 0).erase 1) ∗ bigSep (others c) (fwdDone X c)) ⊢ wpc c (k21 ⟨⟩) Q := by
    rw [e21]
    refine wp_section ((cond_recv c).2.2.1.trans (mem_left2 c)) kend (fun _ => rfl) hend fun hs h => ?_
    have hz := ((mem_left2 c)).mpr hs
    have e := third_step X K c (k := fun _ => kend ⟨⟩) (Q := Q) hA (s := 2) hz
      (p := k0_part9 xM (Memref.isWhole_whole _) oM (Memref.isWhole_whole _) (A 0 0) (A 1 0) (A 0 1) (A 1 1) (A 0 2) (A 1 2) (A 0 3) (A 1 3) c v2 v5 v8 h)
      (by subst hA; exact part9 X K c v2 v5 v8 h hz) (o := ![2]) rfl (i1 := inb_S4_S1_2)
      (id := k0_off35_inb c h) (wd := (Memref.isWhole_whole _).wordExact_slice rfl _ (k0_off35_wordsbf16 c h))
    exact wpc_eq rfl e
  have h20 : iprop(MateLoop X K c ((others c).erase 0) ∗ bigSep (others c) (fwdDone X c)) ⊢ wpc c (k20 ⟨⟩) Q := by
    rw [e20]
    refine wp_section ((cond_recv c).2.1.trans (mem_left1 c)) k21 (fun _ => rfl) h21 fun hs h => ?_
    have hz := ((mem_left1 c)).mpr hs
    have e := third_step X K c (k := fun _ => k21 ⟨⟩) (Q := Q) hA (s := 1) hz
      (p := k0_part8 xM (Memref.isWhole_whole _) oM (Memref.isWhole_whole _) (A 0 0) (A 1 0) (A 0 1) (A 1 1) (A 0 2) (A 1 2) (A 0 3) (A 1 3) c v2 v5 v8 h)
      (by subst hA; exact part8 X K c v2 v5 v8 h hz) (o := ![1]) rfl (i1 := inb_S4_S1_1)
      (id := k0_off32_inb c h) (wd := (Memref.isWhole_whole _).wordExact_slice rfl _ (k0_off32_wordsbf16 c h))
    exact wpc_eq rfl e
  have h19 : iprop(MateLoop X K c (others c) ∗ bigSep (others c) (fwdDone X c)) ⊢ wpc c (k19 ⟨⟩) Q := by
    rw [e19]
    refine wp_section ((cond_recv c).1.trans (mem_others c 0).symm) k20 (fun _ => rfl) h20 fun hs h => ?_
    have hz := ((mem_others c 0).symm).mpr hs
    have e := third_step X K c (k := fun _ => k20 ⟨⟩) (Q := Q) hA (s := 0) hz
      (p := k0_part7 xM (Memref.isWhole_whole _) oM (Memref.isWhole_whole _) (A 0 0) (A 1 0) (A 0 1) (A 1 1) (A 0 2) (A 1 2) (A 0 3) (A 1 3) c v2 v5 v8 h)
      (by subst hA; exact part7 X K c v2 v5 v8 h hz) (o := ![0]) rfl (i1 := inb_S4_S1_0)
      (id := k0_off29_inb c h) (wd := (Memref.isWhole_whole _).wordExact_slice rfl _ (k0_off29_wordsbf16 c h))
    exact wpc_eq rfl e
  have h18 : iprop(FwdLoop X K c ((((((others c).erase (fwd 0 c)).erase (fwd 1 c)).erase (fwd 2 c)).erase (fwd 3 c)).erase (fwd 4 c)) ∗ bigSep (others c) (matesReady (F := F) c)) ⊢ wpc c (k18 ⟨⟩) Q := by
    rw [e18]
    refine wp_section ((cond_fwd c).2.2.2.2.2.trans (fwd_left5 c)) k19 (fun _ => rfl) ((fwd_to_mates X K c (fwd_none c)).trans h19) fun hs h => ?_
    have hz := (fwd_left5 c).mpr hs
    have e := fwd_named X K c hA (k := fun _ => k19 ⟨⟩) (Q := Q) (n2 := ⟨k0_dev28 c, k0_dev28_lt c h⟩) (n3 := ⟨k0_dev29 c, k0_dev29_lt c h⟩) hz
      (S := (((((others c).erase (fwd 0 c)).erase (fwd 1 c)).erase (fwd 2 c)).erase (fwd 3 c)).erase (fwd 4 c))
      (p := k0_part6 xM (Memref.isWhole_whole _) oM (Memref.isWhole_whole _) (A 0 0) (A 1 0) (A 0 1) (A 1 1) (A 0 2) (A 1 2) (A 0 3) (A 1 3) c v2 v5 v8 v11 v110 h)
      (by subst hA; exact part6 X K c v2 v5 v8 v11 v110 h hs hz) (dev_fwd5 c).2.1 (dev_fwd5 c).2.2 ((off_fwd_sem c).2.2.2.2.2 hz) ((off_fwd_blk c).2.2.2.2.2 hz)
      (i1 := k0_off25_inb c h) (i3 := k0_off26_inb c h) (wx := (Memref.isWhole_whole _).wordExact_slice rfl _ (k0_off26_wordsbf16 c h))
      (hsc := rfl) (t2 := ⟨⟨rfl, Or.inl rfl⟩, trivial⟩) (t3 := ⟨⟨rfl, Or.inl rfl⟩, trivial⟩)
    exact wpc_eq rfl e
  have h17 : iprop(FwdLoop X K c (((((others c).erase (fwd 0 c)).erase (fwd 1 c)).erase (fwd 2 c)).erase (fwd 3 c)) ∗ bigSep (others c) (matesReady (F := F) c)) ⊢ wpc c (k17 ⟨⟩) Q := by
    rw [e17]
    refine wp_section ((cond_fwd c).2.2.2.2.1.trans (fwd_left4 c)) k18 (fun _ => rfl) h18 fun hs h => ?_
    have hz := (fwd_left4 c).mpr hs
    have e := fwd_named X K c hA (k := fun _ => k18 ⟨⟩) (Q := Q) (n2 := ⟨k0_dev25 c, k0_dev25_lt c h⟩) (n3 := ⟨k0_dev26 c, k0_dev26_lt c h⟩) hz
      (S := ((((others c).erase (fwd 0 c)).erase (fwd 1 c)).erase (fwd 2 c)).erase (fwd 3 c))
      (p := k0_part5 xM (Memref.isWhole_whole _) oM (Memref.isWhole_whole _) (A 0 0) (A 1 0) (A 0 1) (A 1 1) (A 0 2) (A 1 2) (A 0 3) (A 1 3) c v2 v5 v8 v11 v104 h)
      (by subst hA; exact part5 X K c v2 v5 v8 v11 v104 h hs hz) (dev_fwd4 c).2.1 (dev_fwd4 c).2.2 ((off_fwd_sem c).2.2.2.2.1 hz) ((off_fwd_blk c).2.2.2.2.1 hz)
      (i1 := k0_off23_inb c h) (i3 := k0_off24_inb c h) (wx := (Memref.isWhole_whole _).wordExact_slice rfl _ (k0_off24_wordsbf16 c h))
      (hsc := rfl) (t2 := ⟨⟨rfl, Or.inl rfl⟩, trivial⟩) (t3 := ⟨⟨rfl, Or.inl rfl⟩, trivial⟩)
    exact wpc_eq rfl e
  have h16 : iprop(FwdLoop X K c ((((others c).erase (fwd 0 c)).erase (fwd 1 c)).erase (fwd 2 c)) ∗ bigSep (others c) (matesReady (F := F) c)) ⊢ wpc c (k16 ⟨⟩) Q := by
    rw [e16]
    refine wp_section ((cond_fwd c).2.2.2.1.trans (fwd_left3 c)) k17 (fun _ => rfl) h17 fun hs h => ?_
    have hz := (fwd_left3 c).mpr hs
    have e := fwd_named X K c hA (k := fun _ => k17 ⟨⟩) (Q := Q) (n2 := ⟨k0_dev22 c, k0_dev22_lt c h⟩) (n3 := ⟨k0_dev23 c, k0_dev23_lt c h⟩) hz
      (S := (((others c).erase (fwd 0 c)).erase (fwd 1 c)).erase (fwd 2 c))
      (p := k0_part4 xM (Memref.isWhole_whole _) oM (Memref.isWhole_whole _) (A 0 0) (A 1 0) (A 0 1) (A 1 1) (A 0 2) (A 1 2) (A 0 3) (A 1 3) c v2 v5 v8 v11 v98 h)
      (by subst hA; exact part4 X K c v2 v5 v8 v11 v98 h hs hz) (dev_fwd3 c).2.1 (dev_fwd3 c).2.2 ((off_fwd_sem c).2.2.2.1 hz) ((off_fwd_blk c).2.2.2.1 hz)
      (i1 := k0_off21_inb c h) (i3 := k0_off22_inb c h) (wx := (Memref.isWhole_whole _).wordExact_slice rfl _ (k0_off22_wordsbf16 c h))
      (hsc := rfl) (t2 := ⟨⟨rfl, Or.inl rfl⟩, trivial⟩) (t3 := ⟨⟨rfl, Or.inl rfl⟩, trivial⟩)
    exact wpc_eq rfl e
  rw [hp]
  refine wp_section ((cond_fwd c).2.2.1.trans (fwd_left2 c)) k16 (fun _ => rfl) h16 fun hs h => ?_
  have hz := (fwd_left2 c).mpr hs
  have e := fwd_named X K c hA (k := fun _ => k16 ⟨⟩) (Q := Q) (n2 := ⟨k0_dev19 c, k0_dev19_lt c h⟩) (n3 := ⟨k0_dev20 c, k0_dev20_lt c h⟩) hz
    (S := ((others c).erase (fwd 0 c)).erase (fwd 1 c))
    (p := k0_part3 xM (Memref.isWhole_whole _) oM (Memref.isWhole_whole _) (A 0 0) (A 1 0) (A 0 1) (A 1 1) (A 0 2) (A 1 2) (A 0 3) (A 1 3) c v2 v5 v8 v11 v92 h)
    (by subst hA; exact part3 X K c v2 v5 v8 v11 v92 h hs hz) (dev_fwd2 c).2.1 (dev_fwd2 c).2.2 ((off_fwd_sem c).2.2.1 hz) ((off_fwd_blk c).2.2.1 hz)
    (i1 := k0_off19_inb c h) (i3 := k0_off20_inb c h) (wx := (Memref.isWhole_whole _).wordExact_slice rfl _ (k0_off20_wordsbf16 c h))
    (hsc := rfl) (t2 := ⟨⟨rfl, Or.inl rfl⟩, trivial⟩) (t3 := ⟨⟨rfl, Or.inl rfl⟩, trivial⟩)
  exact wpc_eq rfl e

end Cert.GatherProof
end
-- ==== Proof.Body.lean ====
/-
# The whole body of a device
-/
module

public import proofs.«01_k».proof.Proof.Late

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond22 k0_cond23 k0_cond24 k0_cond25 k0_cond26
  k0_off36 k0_off37 k0_off38 k0_off39 k0_off40 k0_off41 k0_off42 k0_off43 k0_off44 k0_off45 k0_off46

/-- Separating conjunctions may be reordered, -/
instance sep_reorders : _root_.Std.Commutative (α := sProp (MT nD τ sig Unit (Elt F) ℕ UU ℕ)) BIBase.sep :=
  ⟨fun P Q => BI.Entails.antisymm (BI.sep_comm (P := P) (Q := Q)) BI.sep_comm⟩
/-- and bracketed anew. -/
instance sep_rebrackets : _root_.Std.Associative (α := sProp (MT nD τ sig Unit (Elt F) ℕ UU ℕ)) BIBase.sep :=
  ⟨fun P Q R => BI.Entails.antisymm (BI.sep_assoc (P := P) (Q := Q) (R := R)) BI.sep_assoc'⟩

/-- A program and what follows it. -/
theorem wp_seq {c : Dev nD} {α β : Type} {p : Prog (TpuEff nD τ sig (Elt F) Λ₀ .tc) α} {f : α → Prog (TpuEff nD τ sig (Elt F) Λ₀ .tc) β}
    {P R : sProp (MT nD τ sig Unit (Elt F) ℕ UU ℕ)} {Φ : α → sProp (MT nD τ sig Unit (Elt F) ℕ UU ℕ)} {Q : β → sProp (MT nD τ sig Unit (Elt F) ℕ UU ℕ)}
    (hp : P ⊢ wpc c p Φ) (hf : ∀ a, iprop(Φ a ∗ R) ⊢ wpc c (f a) Q) : iprop(P ∗ R) ⊢ wpc c (p >>= f) Q := by
  rw [show wpc c (p >>= f) Q = wpc c p fun a => wpc c (f a) Q from wp_bind _ _ _ _ _ _]
  iintro ⟨HP, HR⟩
  iapply (wp_wand_r Idealize.ShloMosaic.frame (wpE (defs₀ (F := F)) 𝒱₀ (c : Thread nD τ) none) Set.univ)
  isplitl [HP]
  · iapply hp; iexact HP
  iintro %a H
  iapply (hf a)
  isplitl [H] <;> iassumption

/-- The end of the four transfers of a slot. The scratch arrays may go under other names. -/
theorem drain_named (X : Inputs F) (K : Dev nD × CellIx → ℕ) (c : Dev nD) {α : Type} {Q : α → sProp (MT nD τ sig Unit (Elt F) ℕ UU ℕ)}
    {k : PUnit.{1} → Prog (TpuEff nD τ sig (Elt F) Λ₀ .tc) α} {A : Fin 2 → Fin 4 → DmaSems sig S4} (hA : A = scr) {s : Fin 4} (hz : zOf c ≠ s)
    {o : Fin 1 → ℕ} (h1 : o = semOff s) {a b : Fin 2 → ℕ}
    {i1 : ∀ a, o a + S1.size a ≤ S4.size a} {ia : ∀ j, a j + S256x512.size j ≤ S4096x512.size j}
    {ib : ∀ j, b j + S256x512.size j ≤ S4096x512.size j}
    {wa : (outSl a ia).view.WordExact} {wb : (outSl b ib).view.WordExact} :
    iprop(drainReady c s ∗ (env X K ∗ owesAny c 0) ∗ ((drainDone X c s ∗ (env X K ∗ owesAny c 0)) -∗ wpc c (k ⟨⟩) Q))
      ⊢ wpc c (.op (.waitDma2 (semOf (A 0 0) o i1) (outSl a ia) (outSl a ia) wa wa) fun _ =>
          .op (.waitDma2 (semOf (A 0 1) o i1) (outSl b ib) (outSl b ib) wb wb) fun _ =>
          .op (.waitDma2 (semOf (A 0 2) o i1) (outSl b ib) (outSl b ib) wb wb) fun _ =>
          .op (.waitDma2 (semOf (A 0 3) o i1) (outSl b ib) (outSl b ib) wb wb) k) Q := by
  subst hA
  exact drain_step X K c (k := k) (Q := Q) hz h1 (i1 := i1) (ia := ia) (ib := ib) (wa := wa) (wb := wb)

/-- The device's place at a send semaphore. -/
def sendPos (c : Dev nD) (i s : Fin 4) : sProp 𝕄 := atPos ER (sCell c i s) 0 ∅ 0
/-- What the arrival of chunk `s` along `z` and its passing on take of the device's own. -/
def passReady (c : Dev nD) (s : Fin 4) : sProp 𝕄 :=
  iprop(recvReady (F := F) c 0 s ∗ sendReady c 1 s ∗ sendReady c 2 s ∗ sendReady c 3 s)
/-- The device's places at the four send semaphores of a slot. -/
def drainPos (c : Dev nD) (s : Fin 4) : sProp 𝕄 := iprop(sendPos (F := F) c 0 s ∗ sendPos c 1 s ∗ sendPos c 2 s ∗ sendPos c 3 s)
/-- What the signals and the barrier take. -/
def greetReady (c : Dev nD) : sProp 𝕄 :=
  iprop((sigTok c 1 (zOf c) ∗ bigSep (others c) (landPts (F := F) c 1)) ∗ (sigTok c 2 (zOf c) ∗ bigSep (others c) (landPts (F := F) c 2))
    ∗ (sigTok c 3 (zOf c) ∗ bigSep (others c) (landPts (F := F) c 3)) ∗ (cred (tallyAt (barCell c) () 6) ∗ atPos ER (barCell c) 0 ∅ 0)
    ∗ bigSep (others c) (sendReady c 0))
/-- What a device starts from: its staged input, its own block of the output, what the signals take, the rest of its own chunk,
    and its tokens and places for the transfers. -/
def ready (X : Inputs F) (c : Dev nD) : sProp 𝕄 :=
  iprop((xPts X c ∗ (∃ g, blkPts c (zOf c) (qOf c) fullShare g) ∗ bigSep (others c) (sigReady c)) ∗ greetReady c
    ∗ (bigSep (othersQ c) fun j => iprop(∃ g, blkPts (F := F) c (zOf c) j fullShare g))
    ∗ bigSep (others c) (passReady c) ∗ bigSep (others c) (matesReady c) ∗ bigSep (others c) (drainPos c))

/-- What is left of chunk `s` on the device while its transfers end. -/
def keep (X : Inputs F) (c : Dev nD) (s : Fin 4) : sProp 𝕄 := iprop(atPos ER (rCell c 0 s) 1 ∅ 0 ∗ blkPts c s (qOf c) (sh 0) (outAt X c))
/-- What stays on the device while the transfers end. -/
def tailDone (X : Inputs F) (c : Dev nD) : sProp 𝕄 :=
  iprop(bigSep (others c) (matesDone X c) ∗ bigSep (others c) (keep X c) ∗ atPos ER (barCell c) 1 ∅ 0
    ∗ (bigSep (othersQ c) fun j => blkPts c (zOf c) j fullShare (outAt X c)) ∗ xPts X c ∗ blkPts c (zOf c) (qOf c) (sh (zOf c)) (outAt X c))
/-- What a device ends with. -/
def bodyDone (X : Inputs F) (c : Dev nD) : sProp 𝕄 := iprop(owesAny c 0 ∗ bigSep (others c) (drainDone X c) ∗ tailDone X c)

/-- What stays on the device from the handshake on. -/
def aside (X : Inputs F) (c : Dev nD) : sProp 𝕄 :=
  iprop(atPos ER (barCell c) 1 ∅ 0 ∗ blkPts c (zOf c) (qOf c) (sh (zOf c)) (outAt X c) ∗ bigSep (others c) (drainPos c))

/-- From the chunks of the mates to the end of the transfers. -/
theorem mates_to_drain (X : Inputs F) (K : Dev nD × CellIx → ℕ) (c : Dev nD) {S : Finset (Fin 4)} (hS : S = ∅) :
    iprop(MateLoop X K c S ∗ (bigSep (others c) (fwdDone X c) ∗ (midDone X c ∗ aside X c))) ⊢ iprop(DrainLoop X K c (others c) ∗ tailDone X c) := by
  have hs : iprop(bigSep (others c) (sendSent (F := F) c 0) ∗ bigSep (others c) (fwdDone X c) ∗ bigSep (others c) (drainPos c))
      ⊢ iprop(bigSep (others c) (drainReady (F := F) c) ∗ bigSep (others c) (keep X c)) := by
    rw [← bigSep_sep', ← bigSep_sep', ← bigSep_sep']
    refine bigSep_mono fun s _ => ?_
    change BIBase.Entails (PROP := sProp (MT nD τ sig Unit (Elt F) ℕ UU ℕ)) _ _
    unfold fwdDone drainPos drainReady sentReady keep sendPos
    iintro ⟨H0, ⟨Ha, Hb, H1, H2, H3⟩, P0, P1, P2, P3⟩
    isplitr [Ha Hb]
    · isplitl [H0 P0]; · isplitl [H0] <;> iassumption
      isplitl [H1 P1]; · isplitl [H1] <;> iassumption
      isplitl [H2 P2]; · isplitl [H2] <;> iassumption
      isplitl [H3] <;> iassumption
    isplitl [Ha] <;> iassumption
  unfold midDone aside tailDone
  iintro ⟨HL, Hf, ⟨Hs, Hq, Hx⟩, Hb, Ho, Hp⟩
  ihave H := (loop_end _ hS _ _ _) $$ HL
  icases H with ⟨Hm, HI⟩
  ihave H := hs $$ [Hs Hf Hp]
  · isplitl [Hs]; · iexact Hs
    isplitl [Hf] <;> iassumption
  icases H with ⟨Hd, Hk⟩
  isplitl [Hd HI]
  · iapply (loop_start (others c))
    isplitl [Hd] <;> iassumption
  isplitl [Hm]; · iexact Hm
  isplitl [Hk]; · iexact Hk
  isplitl [Hb]; · iexact Hb
  isplitl [Hq]; · iexact Hq
  isplitl [Hx] <;> iassumption

/-- The device's own block, in place, gives a share to each transfer along `z` and keeps one. -/
theorem own_shares (X : Inputs F) (c : Dev nD) :
    blkPts c (zOf c) (qOf c) fullShare (outAt X c) = iprop(bigSep (others c) (sendPay X c 0) ∗ blkPts c (zOf c) (qOf c) (sh (zOf c)) (outAt X c)) := by
  have h (s : Fin 4) : sendPay X c 0 s = blkPts c (zOf c) (qOf c) (sh s) (outAt X c) := by unfold sendPay rslot xshare; rw [if_pos rfl, if_pos rfl]
  rw [blk_shares, show bigSep (others c) (sendPay X c 0) = bigSep (others c) fun s => blkPts c (zOf c) (qOf c) (sh s) (outAt X c) from
    bigSep_congr fun s _ => h s]
  rw [bigSep_take (Finset.mem_univ (zOf c))]
  unfold others
  ac_rfl

/-- The blocks the mates offered join what the device has for passing chunk `s` on. -/
theorem pass_fwd (c : Dev nD) :
    iprop(bigSep (others c) (passReady (F := F) c) ∗ bigSep (others c) (destPts (F := F) c 1) ∗ bigSep (others c) (destPts (F := F) c 2)
      ∗ bigSep (others c) (destPts (F := F) c 3)) ⊢ bigSep (others c) (fwdReady (F := F) c) := by
  rw [← bigSep_sep', ← bigSep_sep', ← bigSep_sep']
  refine bigSep_mono fun s _ => ?_
  change BIBase.Entails (PROP := sProp (MT nD τ sig Unit (Elt F) ℕ UU ℕ)) _ _
  unfold passReady fwdReady
  iintro ⟨⟨Hr, H1, H2, H3⟩, D1, D2, D3⟩
  isplitl [Hr]; · iexact Hr
  isplitl [H1 D1]; · isplitl [H1] <;> iassumption
  isplitl [H2 D2]; · isplitl [H2] <;> iassumption
  isplitl [H3] <;> iassumption

/-- A device runs its body. The scratch arrays may go under other names. -/
theorem body (X : Inputs F) (K : Dev nD × CellIx → ℕ) (c : Dev nD) {A : Fin 2 → Fin 4 → DmaSems sig S4} (hA : A = scr) :
    iprop(env X K ∗ owesAny c (Oall c) ∗ ready X c) ⊢ wpc c (cc0_body xM (Memref.isWhole_whole _) oM (Memref.isWhole_whole _) (A 0 0) (A 1 0) (A 0 1) (A 1 1) (A 0 2) (A 1 2) (A 0 3) (A 1 3)) (fun _ => bodyDone X c) := by
  obtain ⟨p, hp⟩ : ∃ p, p = cc0_body (F := F) xM (Memref.isWhole_whole _) oM (Memref.isWhole_whole _) (A 0 0) (A 1 0) (A 0 1) (A 1 1) (A 0 2) (A 1 2) (A 0 3) (A 1 3) := ⟨_, rfl⟩
  rw [← hp]
  rw [cc0_body_eq_skeleton] at hp
  unfold cc0_body_skel at hp
  obtain ⟨f11, hf, h11⟩ : ∃ f, f = _ ∧ p = k0_part11 xM (Memref.isWhole_whole _) oM (Memref.isWhole_whole _) (A 0 0) (A 1 0) (A 0 1) (A 1 1) (A 0 2) (A 1 2) (A 0 3) (A 1 3) >>= f := ⟨_, rfl, hp⟩
  clear hp
  have h12 : ∀ v2 v5 v8 v11 v19 v32 w, f11 ⟨c, v2, v5, v8, v11, v19, v32, w⟩ = _ := fun _ _ _ _ _ _ _ => congrFun hf _
  clear hf
  dsimp (config := {zeta := false}) only at h12
  set Q : PUnit → sProp (MT nD τ sig Unit (Elt F) ℕ UU ℕ) := fun _ => bodyDone X c with hQ
  have t12 : ∀ v2 v5 v8 v11 v32 w, iprop((env X K ∗ owesAny c (Omate c) ∗ meetReady X c) ∗ (blkPts c (zOf c) (qOf c) (sh (zOf c)) (outAt X c) ∗ xPts X c
      ∗ (bigSep (othersQ c) fun j => iprop(∃ g, blkPts (F := F) c (zOf c) j fullShare g))
      ∗ bigSep (others c) (passReady c) ∗ bigSep (others c) (matesReady c) ∗ bigSep (others c) (drainPos c)))
      ⊢ wpc c (f11 ⟨c, v2, v5, v8, v11, SemArray.scalar (sig.barrier 0 rfl), v32, w⟩) Q := by
    intro v2 v5 v8 v11 v32 w
    have e := h12 v2 v5 v8 v11 (SemArray.scalar (sig.barrier 0 rfl)) v32 w
    clear h12
    obtain ⟨f12, hf, e'⟩ : ∃ f, f = _ ∧ f11 ⟨c, v2, v5, v8, v11, SemArray.scalar (sig.barrier 0 rfl), v32, w⟩
      = k0_part12 xM (Memref.isWhole_whole _) oM (Memref.isWhole_whole _) (A 0 0) (A 1 0) (A 0 1) (A 1 1) (A 0 2) (A 1 2) (A 0 3) (A 1 3) c v2 v5 v8 v11 (SemArray.scalar (sig.barrier 0 rfl)) v32 w >>= f := ⟨_, rfl, e⟩
    rw [e']
    clear e e' h11
    refine wp_seq (by subst hA; exact part12 X K c v2 v5 v8 v11 v32 w) ?_
    rintro ⟨v61, w1⟩
    have e := congrFun hf ⟨v61, w1⟩
    clear hf
    dsimp (config := {zeta := false}) only at e
    obtain ⟨f13, hf, e'⟩ : ∃ f, f = _ ∧ f12 ⟨v61, w1⟩ = k0_part13 xM (Memref.isWhole_whole _) oM (Memref.isWhole_whole _) (A 0 0) (A 1 0) (A 0 1) (A 1 1) (A 0 2) (A 1 2) (A 0 3) (A 1 3) c v2 v5 v8 v11 v61 w1 >>= f := ⟨_, rfl, e⟩
    rw [e']
    clear e e'
    refine BIBase.Entails.trans ?_ (wp_seq (P := iprop(SendLoop X K c (((others c).erase 0).erase 1) ∗ midReady X c))
      (R := iprop(bigSep (others c) (matesReady (F := F) c) ∗ aside X c)) (by subst hA; exact part13 X K c rfl v2 v5 v8 v11 v61 w1) ?_)
    · unfold met midReady aside
      iintro ⟨⟨HL, Hb, Hd⟩, Ho, Hx, Hq, Hp, Hm, Hs⟩
      isplitl [HL Hd Hx Hq Hp]
      · isplitl [HL]; · iexact HL
        isplitl [Hx]; · iexact Hx
        isplitl [Hq]; · iexact Hq
        iapply (pass_fwd c)
        isplitl [Hp] <;> iassumption
      isplitl [Hm]; · iexact Hm
      isplitl [Hb]; · iexact Hb
      isplitl [Ho] <;> iassumption
    rintro ⟨v92, w2⟩
    have e := congrFun hf ⟨v92, w2⟩
    clear hf
    dsimp (config := {zeta := false}) only at e
    obtain ⟨f14, hf, e'⟩ : ∃ f, f = _ ∧ f13 ⟨v92, w2⟩ = k0_part14 xM (Memref.isWhole_whole _) oM (Memref.isWhole_whole _) (A 0 0) (A 1 0) (A 0 1) (A 1 1) (A 0 2) (A 1 2) (A 0 3) (A 1 3) c v2 v5 v8 v11 v92 w2 >>= f := ⟨_, rfl, e⟩
    rw [e']
    clear e e'
    refine BIBase.Entails.trans ?_ (wp_seq (P := iprop(FwdLoop X K c (((others c).erase (fwd 0 c)).erase (fwd 1 c)) ∗ bigSep (others c) (matesReady (F := F) c)))
      (R := iprop(midDone X c ∗ aside X c)) (by subst hA; exact part14 X K c rfl v2 v5 v8 v11 v92 w2) ?_)
    · iintro ⟨⟨HL, Hd⟩, Hm, Ha⟩
      isplitl [HL Hm]
      · isplitl [HL] <;> iassumption
      isplitl [Hd] <;> iassumption
    intro x
    have e := congrFun hf x
    clear hf
    simp (config := {zeta := false}) only [Prog.lift, Prog.bind_op, Prog.bind_ret, Prog.pure_eq_ret] at e
    extract_lets jend _ _ _ _ _ _ _ _ j26 _ _ _ _ _ _ _ _ j25 _ _ _ _ _ _ _ _ j24 _ _ _ _ _ _ _ _ j23 _ _ at e
    have eend : jend ⟨⟩ = Prog.ret _ := rfl
    have e26 : j26 ⟨⟩ = dite (k0_cond26 c = 1#1) _ _ := rfl
    have e25 : j25 ⟨⟩ = dite (k0_cond25 c = 1#1) _ _ := rfl
    have e24 : j24 ⟨⟩ = dite (k0_cond24 c = 1#1) _ _ := rfl
    have e23 : j23 ⟨⟩ = dite (k0_cond23 c = 1#1) _ _ := rfl
    obtain ⟨kend, qend⟩ : ∃ k, k = jend := ⟨_, rfl⟩
    rw [← qend] at eend e26
    obtain ⟨k26, q26⟩ : ∃ k, k = j26 := ⟨_, rfl⟩
    rw [← q26] at e26 e25
    obtain ⟨k25, q25⟩ : ∃ k, k = j25 := ⟨_, rfl⟩
    rw [← q25] at e25 e24
    obtain ⟨k24, q24⟩ : ∃ k, k = j24 := ⟨_, rfl⟩
    rw [← q24] at e24 e23
    obtain ⟨k23, q23⟩ : ∃ k, k = j23 := ⟨_, rfl⟩
    rw [← q23] at e23
    rw [← q23] at e
    have hend : iprop(DrainLoop X K c (((((others c).erase 0).erase 1).erase 2).erase 3) ∗ tailDone X c) ⊢ wpc c (kend ⟨⟩) Q := by
      rw [eend]
      unfold wpc
      rw [wp_ret]
      iintro ⟨HL, Ht⟩
      ihave H := (loop_end _ (none_left c) _ _ _) $$ HL
      icases H with ⟨Hd, -, HO⟩
      imodintro
      rw [hQ]
      unfold bodyDone
      isplitl [HO]; · iexact HO
      isplitl [Hd] <;> iassumption
    have h26 : iprop(DrainLoop X K c ((((others c).erase 0).erase 1).erase 2) ∗ tailDone X c) ⊢ wpc c (k26 ⟨⟩) Q := by
      rw [e26]
      refine wp_section ((cond_drain c).2.2.2.trans (mem_left3 c)) kend (fun _ => rfl) hend fun hs h => ?_
      have hz := (mem_left3 c).mpr hs
      have e := drain_named X K c hA (k := fun _ => kend ⟨⟩) (Q := Q) (s := 3) hz (o := ![3]) rfl (i1 := inb_S4_S1_3)
        (ia := k0_off45_inb c h) (ib := k0_off46_inb c h)
        (wa := (Memref.isWhole_whole _).wordExact_slice rfl _ (k0_off45_wordsbf16 c h)) (wb := (Memref.isWhole_whole _).wordExact_slice rfl _ (k0_off46_wordsbf16 c h))
      exact wpc_eq rfl e
    have h25 : iprop(DrainLoop X K c (((others c).erase 0).erase 1) ∗ tailDone X c) ⊢ wpc c (k25 ⟨⟩) Q := by
      rw [e25]
      refine wp_section ((cond_drain c).2.2.1.trans (mem_left2 c)) k26 (fun _ => rfl) h26 fun hs h => ?_
      have hz := (mem_left2 c).mpr hs
      have e := drain_named X K c hA (k := fun _ => k26 ⟨⟩) (Q := Q) (s := 2) hz (o := ![2]) rfl (i1 := inb_S4_S1_2)
        (ia := k0_off43_inb c h) (ib := k0_off44_inb c h)
        (wa := (Memref.isWhole_whole _).wordExact_slice rfl _ (k0_off43_wordsbf16 c h)) (wb := (Memref.isWhole_whole _).wordExact_slice rfl _ (k0_off44_wordsbf16 c h))
      exact wpc_eq rfl e
    have h24 : iprop(DrainLoop X K c ((others c).erase 0) ∗ tailDone X c) ⊢ wpc c (k24 ⟨⟩) Q := by
      rw [e24]
      refine wp_section ((cond_drain c).2.1.trans (mem_left1 c)) k25 (fun _ => rfl) h25 fun hs h => ?_
      have hz := (mem_left1 c).mpr hs
      have e := drain_named X K c hA (k := fun _ => k25 ⟨⟩) (Q := Q) (s := 1) hz (o := ![1]) rfl (i1 := inb_S4_S1_1)
        (ia := k0_off41_inb c h) (ib := k0_off42_inb c h)
        (wa := (Memref.isWhole_whole _).wordExact_slice rfl _ (k0_off41_wordsbf16 c h)) (wb := (Memref.isWhole_whole _).wordExact_slice rfl _ (k0_off42_wordsbf16 c h))
      exact wpc_eq rfl e
    have h23 : iprop(DrainLoop X K c (others c) ∗ tailDone X c) ⊢ wpc c (k23 ⟨⟩) Q := by
      rw [e23]
      refine wp_section ((cond_drain c).1.trans ((mem_others c 0).symm)) k24 (fun _ => rfl) h24 fun hs h => ?_
      have hz := ((mem_others c 0).symm).mpr hs
      have e := drain_named X K c hA (k := fun _ => k24 ⟨⟩) (Q := Q) (s := 0) hz (o := ![0]) rfl (i1 := inb_S4_S1_0)
        (ia := k0_off39_inb c h) (ib := k0_off40_inb c h)
        (wa := (Memref.isWhole_whole _).wordExact_slice rfl _ (k0_off39_wordsbf16 c h)) (wb := (Memref.isWhole_whole _).wordExact_slice rfl _ (k0_off40_wordsbf16 c h))
      exact wpc_eq rfl e
    rw [e]
    refine BIBase.Entails.trans (Q := iprop(MateLoop X K c ((((others c).erase 0).erase 1).erase 2) ∗ (bigSep (others c) (fwdDone X c) ∗ (midDone X c ∗ aside X c)))) ?_ ?_
    · iintro ⟨⟨HL, Hf⟩, HR⟩
      isplitl [HL]; · iexact HL
      isplitl [Hf] <;> iassumption
    refine wp_section ((cond_recv c).2.2.2.trans (mem_left3 c)) k23 (fun _ => rfl) ((mates_to_drain X K c (none_left c)).trans h23) fun hs h => ?_
    have hz := (mem_left3 c).mpr hs
    have e := third_step X K c (k := fun _ => k23 ⟨⟩) (Q := Q) hA (s := 3) hz
      (p := k0_part10 xM (Memref.isWhole_whole _) oM (Memref.isWhole_whole _) (A 0 0) (A 1 0) (A 0 1) (A 1 1) (A 0 2) (A 1 2) (A 0 3) (A 1 3) c v2 v5 v8 h)
      (by subst hA; exact part10 X K c v2 v5 v8 h hz) (o := ![3]) rfl (i1 := inb_S4_S1_3)
      (id := k0_off38_inb c h) (wd := (Memref.isWhole_whole _).wordExact_slice rfl _ (k0_off38_wordsbf16 c h))
    exact wpc_eq rfl e
  rw [h11]
  clear h11 h12
  refine BIBase.Entails.trans ?_ (wp_seq (by subst hA; exact part11 X K c (Omate c)) (R := iprop(env X K ∗ greetReady c
    ∗ (bigSep (othersQ c) fun j => iprop(∃ g, blkPts (F := F) c (zOf c) j fullShare g))
    ∗ bigSep (others c) (passReady c) ∗ bigSep (others c) (matesReady c) ∗ bigSep (others c) (drainPos c))) ?_)
  · unfold ready Oall
    iintro ⟨#HE, HO, ⟨Hx, Hg, Hs⟩, HR⟩
    isplitr [HR]
    · isplitr; · iexact HE
      isplitl [HO]; · iexact HO
      isplitl [Hx]; · iexact Hx
      isplitl [Hg] <;> iassumption
    isplitr; · iexact HE
    iexact HR
  rintro ⟨d, v2, v5, v8, v11, v19, v32, w⟩
  unfold opened
  iintro ⟨⟨%hr, HO, Hx, Hb⟩, HE, Hgr, HR⟩
  obtain ⟨hd, hv⟩ := hr
  dsimp only at hd hv
  subst hd hv
  iapply (t12 v2 v5 v8 v11 v32 w)
  ihave H := (Entails.of_eq (own_shares X _)) $$ Hb
  icases H with ⟨Hp, Hb⟩
  unfold meetReady greetReady
  icases Hgr with ⟨H1, H2, H3, Hc, Hs⟩
  isplitl [HO HE Hp H1 H2 H3 Hc Hs]
  · isplitl [HE]; · iexact HE
    isplitl [HO]; · iexact HO
    isplitl [H1]; · iexact H1
    isplitl [H2]; · iexact H2
    isplitl [H3]; · iexact H3
    isplitl [Hc]; · iexact Hc
    isplitl [Hs] <;> iassumption
  isplitl [Hb]; · iexact Hb
  isplitl [Hx] <;> iassumption

end Cert.GatherProof
end
-- ==== Proof.Sorted.lean ====
/-
# A device's tokens, places and blocks, sorted
-/
module

public import proofs.«01_k».proof.Proof.Body

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Separating conjunctions sorted -/

omit [FloatOps F] in
/-- Over the four slots, one by one. -/
theorem four_split (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- Over the four quarters, as the device and its mates have them. -/
theorem quarter_split (c : Dev nD) (Φ : Fin 4 → sProp 𝕄) :
    bigSep Finset.univ Φ = iprop(Φ (mateQ 0 (qOf c)) ∗ Φ (mateQ 1 (qOf c)) ∗ Φ (mateQ 2 (qOf c)) ∗ Φ (mateQ 3 (qOf c))) :=
  bigSep_univ_eq_bigSepL [mateQ 0 (qOf c), mateQ 1 (qOf c), mateQ 2 (qOf c), mateQ 3 (qOf c)]
    (by generalize qOf c = q; revert q; decide) (by generalize qOf c = q; revert q; decide) Φ
omit [FloatOps F] in
/-- Over the slots: the device's own and the others. -/
theorem slot_split (c : Dev nD) (Φ : Fin 4 → sProp 𝕄) : bigSep Finset.univ Φ = iprop(Φ (zOf c) ∗ bigSep (others c) Φ) :=
  bigSep_take (Finset.mem_univ (zOf c)) Φ
omit [FloatOps F] in
/-- Over the quarters: the device's own and the others. -/
theorem ownq_split (c : Dev nD) (Φ : Fin 4 → sProp 𝕄) : bigSep Finset.univ Φ = iprop(Φ (qOf c) ∗ bigSep (othersQ c) Φ) :=
  bigSep_take (Finset.mem_univ (qOf c)) Φ
omit [FloatOps F] in
/-- Over all blocks: the device's own, the rest of its own chunk, and of each other chunk the four quarters. -/
theorem block_split (c : Dev nD) (Φ : Fin 4 → Fin 4 → sProp 𝕄) :
    (bigSep Finset.univ fun s => bigSep Finset.univ fun k => Φ s k)
      = iprop((Φ (zOf c) (qOf c) ∗ bigSep (othersQ c) (Φ (zOf c)))
        ∗ bigSep (others c) (fun s => Φ s (mateQ 0 (qOf c))) ∗ bigSep (others c) (fun s => Φ s (mateQ 1 (qOf c)))
        ∗ bigSep (others c) (fun s => Φ s (mateQ 2 (qOf c))) ∗ bigSep (others c) (fun s => Φ s (mateQ 3 (qOf c)))) := by
  rw [slot_split c, ownq_split c]
  rw [show (bigSep (others c) fun s => bigSep Finset.univ fun k => Φ s k)
    = bigSep (others c) fun s => iprop(Φ s (mateQ 0 (qOf c)) ∗ Φ s (mateQ 1 (qOf c)) ∗ Φ s (mateQ 2 (qOf c)) ∗ Φ s (mateQ 3 (qOf c)))
    from bigSep_congr fun s _ => quarter_split c _]
  simp only [bigSep_sep']
omit [FloatOps F] in
/-- Over the transfers of a device: direction by direction. -/
theorem xfer_split (c : Dev nD) (Φ : Fin 4 × Fin 4 → sProp 𝕄) :
    bigSep (xfers c) Φ = iprop(bigSep (others c) (fun s => Φ (0, s)) ∗ bigSep (others c) (fun s => Φ (1, s))
      ∗ bigSep (others c) (fun s => Φ (2, s)) ∗ bigSep (others c) (fun s => Φ (3, s))) := by
  have h : ∀ c : Dev nD, xfers c = (others c).image (fun s => ((0 : Fin 4), s)) ∪ ((others c).image (fun s => ((1 : Fin 4), s))
      ∪ ((others c).image (fun s => ((2 : Fin 4), s)) ∪ (others c).image (fun s => ((3 : Fin 4), s)))) := by decide +kernel
  have h0 : ∀ c : Dev nD, Disjoint ((others c).image (fun s => ((0 : Fin 4), s))) ((others c).image (fun s => ((1 : Fin 4), s))
      ∪ ((others c).image (fun s => ((2 : Fin 4), s)) ∪ (others c).image (fun s => ((3 : Fin 4), s)))) := by decide +kernel
  have h1 : ∀ c : Dev nD, Disjoint ((others c).image (fun s => ((1 : Fin 4), s)))
      ((others c).image (fun s => ((2 : Fin 4), s)) ∪ (others c).image (fun s => ((3 : Fin 4), s))) := by decide +kernel
  have h2 : ∀ c : Dev nD, Disjoint ((others c).image (fun s => ((2 : Fin 4), s))) ((others c).image (fun s => ((3 : Fin 4), s))) := by decide +kernel
  have hi (i : Fin 4) : Set.InjOn (fun s : Fin 4 => (i, s)) (others c) := fun s _ s' _ h => congrArg Prod.snd h
  rw [h, BI.bigSep_union (h0 c), BI.bigSep_union (h1 c), BI.bigSep_union (h2 c), bigSep_image_of_injOn (hi 0), bigSep_image_of_injOn (hi 1),
    bigSep_image_of_injOn (hi 2), bigSep_image_of_injOn (hi 3)]
  rfl
omit [FloatOps F] in
/-- Over the signals of a device: along `z`, and to the three mates. -/
theorem sig_split (c : Dev nD) (Φ : Fin 4 × Fin 4 → sProp 𝕄) :
    bigSep (sigs c) Φ = iprop(bigSep (others c) (fun s => Φ (0, s)) ∗ Φ (1, zOf c) ∗ Φ (2, zOf c) ∗ Φ (3, zOf c)) := by
  have h1 : ∀ z : Fin 4, ((1, z) : DutyName) ∉ ({(2, z), (3, z)} : Finset DutyName) := by decide
  have h2 : ∀ z : Fin 4, ((2, z) : DutyName) ∉ ({(3, z)} : Finset DutyName) := by decide
  rw [sigs_eq, BI.bigSep_union (sigs_disjoint c), bigSep_image_of_injOn (fun s _ s' _ h => congrArg Prod.snd h),
    BI.bigSep_insert (h1 _), BI.bigSep_insert (h2 _), bigSep_singleton]
  rfl
omit [FloatOps F] in
/-- Over the cells of a device: the barrier, and the semaphores of the transfers. -/
theorem cell_opt (Φ : CellIx → sProp 𝕄) : bigSep Finset.univ Φ = iprop(Φ none ∗ bigSep Finset.univ fun x => Φ (some x)) := by
  rw [bigSep_take (Finset.mem_univ none),
    show (Finset.univ : Finset CellIx).erase none = Finset.univ.map Function.Embedding.some from by decide, bigSep_map]
  rfl
omit [FloatOps F] in
/-- Over the cells of a device: the barrier, those of its own slot, which stay idle, and those of its transfers. -/
theorem cell_split (c : Dev nD) (Φ : CellIx → sProp 𝕄) :
    bigSep Finset.univ Φ = iprop(Φ none ∗ (bigSep Finset.univ fun bi : Fin 2 × Fin 4 => Φ (some (bi.1, bi.2, zOf c)))
      ∗ bigSep (xfers c) (fun x => Φ (some (0, x.1, x.2))) ∗ bigSep (xfers c) (fun x => Φ (some (1, x.1, x.2)))) := by
  have h : (bigSep Finset.univ fun x : Fin 2 × Fin 4 × Fin 4 => Φ (some x))
      = bigSep Finset.univ fun bi : Fin 2 × Fin 4 => iprop(Φ (some (bi.1, bi.2, zOf c)) ∗ bigSep (others c) fun s => Φ (some (bi.1, bi.2, s))) := by
    rw [bigSep_univ_equiv (Equiv.prodAssoc (Fin 2) (Fin 4) (Fin 4)), bigSep_univ_prod]
    exact bigSep_congr fun bi _ => slot_split c _
  rw [cell_opt, h, bigSep_sep', bigSep_univ_prod (fun bi : Fin 2 × Fin 4 => bigSep (others c) fun s => Φ (some (bi.1, bi.2, s))),
    bigSep_univ_eq_bigSepL [(0 : Fin 2), 1] (by decide) (by decide)]
  simp only [bigSepL_cons_cons, bigSepL_singleton]
  rw [four_split, four_split, ← xfer_split c (fun x => Φ (some (0, x.1, x.2))), ← xfer_split c (fun x => Φ (some (1, x.1, x.2)))]
  rfl

/-! ## The start -/

/-- A device's places at the cells it does not use. -/
def idle (c : Dev nD) : sProp 𝕄 := bigSep Finset.univ fun bi : Fin 2 × Fin 4 => atPos ER (cell c (some (bi.1, bi.2, zOf c))) 0 ∅ 0
/-- A device's tokens: of its signals, and of its transfers. -/
def tokens (c : Dev nD) : sProp 𝕄 :=
  iprop(bigSep (sigs c) (fun x => sigTok (F := F) c x.1 x.2) ∗ bigSep (xfers c) (fun x => sendReady (F := F) c x.1 x.2))
/-- A device's places at all its cells. -/
def places (c : Dev nD) : sProp 𝕄 := bigSep Finset.univ fun k => atPos ER (cell c k) 0 ∅ 0
/-- What a device is owed. -/
def claims (c : Dev nD) : sProp 𝕄 :=
  iprop(cred (tallyAt (barCell c) () 6) ∗ bigSep (xfers c) fun x => cred (tallyAt (rCell c x.1 x.2) () N))

/-- A device's tokens, places, credit and buffers are what its body starts from. -/
theorem ready_intro (X : Inputs F) (c : Dev nD) :
    iprop(xPts X c ∗ (∃ f, ((c : Thread nD τ).loc cc0_stg1_0) ↦{fullShare} f) ∗ tokens c ∗ places c ∗ claims c) ⊢ iprop(ready X c ∗ idle c) := by
  have hb : iprop(∃ f, (((c : Thread nD τ).loc cc0_stg1_0) ↦{fullShare} f : sProp 𝕄))
      ⊢ bigSep Finset.univ fun s => bigSep Finset.univ fun k => iprop(∃ g, blkPts (F := F) c s k fullShare g) := by
    iintro ⟨%f, H⟩
    iapply (show bigSep Finset.univ (fun s => bigSep Finset.univ fun k => blkPts (F := F) c s k fullShare f)
      ⊢ bigSep Finset.univ fun s => bigSep Finset.univ fun k => iprop(∃ g, blkPts (F := F) c s k fullShare g)
      from bigSep_mono fun s _ => bigSep_mono fun k _ => by
        change BIBase.Entails (PROP := sProp (MT nD τ sig Unit (Elt F) ℕ UU ℕ)) _ _
        iintro H; iexists f; iexact H)
    rw [← out_blocks]
    iexact H
  refine BIBase.Entails.trans (Q := iprop(xPts X c ∗ (bigSep Finset.univ fun s => bigSep Finset.univ fun k => iprop(∃ g, blkPts (F := F) c s k fullShare g))
    ∗ tokens c ∗ places c ∗ claims c)) ?_ (Entails.of_eq ?_)
  · iintro ⟨Hx, Hb, HR⟩
    isplitl [Hx]; · iexact Hx
    isplitl [Hb]; · iapply hb; iexact Hb
    iexact HR
  · unfold tokens places claims ready greetReady idle
    rw [block_split c, sig_split c, xfer_split c, xfer_split c, cell_split c, xfer_split c, xfer_split c]
    unfold passReady matesReady drainPos sigReady sendPos recvReady landPts
    simp only [bigSep_sep', barCell, sCell, rCell]
    ac_rfl

/-! ## The end -/

/-- A place past the last round of its cell. -/
def past (X : Inputs F) (c : Dev nD) (k : CellIx) : sProp 𝕄 :=
  iprop(∃ R, ⌜∀ r, R ≤ r → (Rd X).duties (cell c k) r = ∅⌝ ∗ atPos ER (cell c k) R ∅ 0)

/-- One round done, or a cell of the device's own slot. -/
theorem past_used (X : Inputs F) (c : Dev nD) (k : CellIx) : atPos ER (cell c k) 1 ∅ 0 ⊢ past X c k := by
  unfold past
  iintro H
  iexists 1
  isplitr; · ipureintro; exact duties_later X _
  iexact H
/-- A cell whose transfer does not take place is at its end from the start. -/
theorem past_idle (X : Inputs F) (c : Dev nD) (b : Fin 2) (i : Fin 4) : atPos ER (cell c (some (b, i, zOf c))) 0 ∅ 0 ⊢ past X c (some (b, i, zOf c)) := by
  unfold past
  iintro H
  iexists 0
  isplitr; · ipureintro; exact duties_unused X c b i
  iexact H

/-- A cell past its last round is closed: its counter, at zero, is the device's again. -/
theorem past_close (X : Inputs F) (K : Dev nD × CellIx → ℕ) (c : Dev nD) (k : CellIx) :
    iprop(env X K ∗ past X c k) ⊢ |={Set.univ}=> semVal (cell c k) 0 := by
  unfold past
  iintro ⟨#HE, ⟨%R, %hR, H⟩⟩
  imod (Rounds.cell_close ER (Rd X) (Set.mem_univ (K (c, k))) (fun h => h) (R := R) hR) $$ [H] with HZ
  · isplitr; · iapply (env_inv X K c k); iexact HE
    iexact H
  imodintro
  iexact HZ

/-- What is persistent serves every element. -/
theorem bigSep_using {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The places a device ends with. -/
def endPlaces (c : Dev nD) : sProp 𝕄 :=
  iprop(atPos ER (barCell c) 1 ∅ 0 ∗ idle (F := F) c ∗ bigSep (xfers c) (fun x => atPos ER (sCell c x.1 x.2) 1 ∅ 0)
    ∗ bigSep (xfers c) (fun x => atPos ER (rCell c x.1 x.2) 1 ∅ 0))

/-- All cells close. -/
theorem places_close (X : Inputs F) (K : Dev nD × CellIx → ℕ) (c : Dev nD) :
    iprop(env X K ∗ endPlaces c) ⊢ |={Set.univ}=> bigSep Finset.univ fun k => semVal (cell c k) 0 := by
  have h : endPlaces (F := F) c ⊢ bigSep Finset.univ fun k => past X c k := by
    rw [cell_split c]
    unfold endPlaces idle
    exact BI.sep_mono (past_used X c none) (BI.sep_mono (bigSep_mono fun bi _ => past_idle X c bi.1 bi.2)
      (BI.sep_mono (bigSep_mono fun x _ => past_used X c _) (bigSep_mono fun x _ => past_used X c _)))
  exact (sep_mono_right h).trans ((bigSep_using fun k _ => past_close X K c k).trans (bigSep_fupd _ _))

/-- The blocks a device ends with are the whole of its output. -/
theorem out_whole (X : Inputs F) (c : Dev nD) :
    ((((c : Thread nD τ).loc cc0_stg1_0) ↦{fullShare} (outAt X c) : sProp 𝕄))
      = iprop((((bigSep (others c) (sendPay X c 0) ∗ blkPts c (zOf c) (qOf c) (sh (zOf c)) (outAt X c)))
          ∗ (bigSep (othersQ c) fun j => blkPts c (zOf c) j fullShare (outAt X c)))
        ∗ (bigSep (others c) (fun s => blkPts c s (qOf c) (sh 0) (outAt X c)) ∗ bigSep (others c) (sendPay X c 1)
          ∗ bigSep (others c) (sendPay X c 2) ∗ bigSep (others c) (sendPay X c 3))
        ∗ bigSep (others c) (recvPay X c 1) ∗ bigSep (others c) (recvPay X c 2) ∗ bigSep (others c) (recvPay X c 3)) := by
  have hs (s : Fin 4) : blkPts c s (mateQ 0 (qOf c)) fullShare (outAt X c)
      = iprop(blkPts c s (qOf c) (sh 0) (outAt X c) ∗ sendPay X c 1 s ∗ sendPay X c 2 s ∗ sendPay X c 3 s) := by
    rw [show mateQ 0 (qOf c) = qOf c from rfl, blk_shares, four_split, pay_share X c (by decide), pay_share X c (by decide), pay_share X c (by decide)]
  rw [out_blocks, block_split c, own_shares]
  rw [show (bigSep (others c) fun s => blkPts c s (mateQ 0 (qOf c)) fullShare (outAt X c))
    = bigSep (others c) fun s => iprop(blkPts c s (qOf c) (sh 0) (outAt X c) ∗ sendPay X c 1 s ∗ sendPay X c 2 s ∗ sendPay X c 3 s)
    from bigSep_congr fun s _ => hs s]
  simp only [bigSep_sep']
  rfl

/-- What a device's body ends with, sorted. -/
theorem bodyDone_eq (X : Inputs F) (c : Dev nD) :
    iprop(bodyDone X c ∗ idle c) = iprop(owesAny c 0 ∗ xPts X c ∗ (((c : Thread nD τ).loc cc0_stg1_0) ↦{fullShare} (outAt X c)) ∗ endPlaces c) := by
  rw [out_whole]
  unfold bodyDone tailDone endPlaces
  rw [xfer_split c, xfer_split c]
  unfold drainDone matesDone keep sentBack landed
  simp only [bigSep_sep', barCell, sCell, rCell]
  ac_rfl

/-- The end of a device: all its cells closed, its output whole. -/
theorem finish (X : Inputs F) (K : Dev nD × CellIx → ℕ) (c : Dev nD) :
    iprop(env X K ∗ bodyDone X c ∗ idle c) ⊢ |={Set.univ}=> iprop(owesAny c 0 ∗ xPts X c
      ∗ (((c : Thread nD τ).loc cc0_stg1_0) ↦{fullShare} (outAt X c)) ∗ bigSep Finset.univ fun k => semVal (cell c k) 0) := by
  rw [bodyDone_eq]
  iintro ⟨#HE, HO, Hx, Hb, Hp⟩
  imod (places_close X K c) $$ [Hp] with Hz
  · isplitr; · iexact HE
    iexact Hp
  imodintro
  isplitl [HO]; · iexact HO
  isplitl [Hx]; · iexact Hx
  isplitl [Hb] <;> iassumption

end Cert.GatherProof
end
-- ==== Proof.Deal.lean ====
/-
# The launch deals out cells, tokens and credit
-/
module

public import proofs.«01_k».proof.Proof.Sorted

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inputs F)

/-! ## The cells and tokens of the launch -/

/-- Different names or devices, different cells. -/
theorem cell_injective : Function.Injective (fun x : Dev nD × CellIx => cell x.1 x.2) := by
  rintro ⟨c, k⟩ ⟨c', k'⟩ h
  have h1 : c = c' := congrArg (fun g : GSem nD τ sig => g.1.1) h
  have h2 : k = k' := csem_injective (congrArg Prod.snd h)
  rw [h1, h2]
/-- All cells of the protocol. -/
def allCells : Finset (GSem nD τ sig) := Finset.univ.map ⟨fun x : Dev nD × CellIx => cell x.1 x.2, cell_injective⟩

/-- A duty's token by cell and duty name. -/
abbrev tokAt (x : (Dev nD × CellIx) × DutyName) : GSem nD τ sig × ℕ × DutyName := (cell x.1.1 x.1.2, 0, x.2)
/-- Different cells or duty names, different tokens. -/
theorem tokAt_injective : Function.Injective tokAt := fun x y h =>
  Prod.ext (cell_injective (congrArg Prod.fst h)) (congrArg (fun t : GSem nD τ sig × ℕ × DutyName => t.2.2) h)
/-- All tokens: of every cell, one for every duty name. -/
def allToks : Finset (GSem nD τ sig × ℕ × DutyName) := Finset.univ.map ⟨tokAt, tokAt_injective⟩

/-- The tokens of one device's cells. -/
def minted (c : Dev nD) : sProp 𝕄 := bigSep Finset.univ fun k : CellIx => bigSep Finset.univ fun d : DutyName => dutyTok ER (cell c k) 0 d

/-- What the launch gives a device: the state of its cells, its places, that the first rounds have begun, its cells' tokens. -/
def dealt (c : Dev nD) : sProp 𝕄 :=
  iprop((bigSep Finset.univ fun k : CellIx => roundState ER (Rd X) (cell c k) 0)
    ∗ (places c ∗ bigSep Finset.univ fun k : CellIx => reached ER (cell c k) 0) ∗ minted c)

omit [FloatOps F] in
/-- The ghost state the run begins with is what the devices are given. -/
theorem fund_all : BI.own (ER (initOf allCells allToks)) ⊢ (|==> bigSep Finset.univ (dealt X) : sProp 𝕄) := by
  have hX (Φ : GSem nD τ sig → sProp 𝕄) : bigSep allCells Φ = bigSep Finset.univ fun c : Dev nD => bigSep Finset.univ fun k : CellIx => Φ (cell c k) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod, bigSep_univ_prod]; rfl
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt places
  simp only [bigSep_sep']
  isplitl [Hst']; · iexact Hst'
  isplitl [Hat' Hr']
  · isplitl [Hat'] <;> iassumption
  iexact Htok'

/-! ## The tokens go to their payers -/

omit [FloatOps F] in
/-- Of the tokens of a device's cells: those of its barrier, and one of each send and receive cell. -/
theorem minted_split (c : Dev nD) : minted (F := F) c ⊢ iprop((bigSep Finset.univ fun d : DutyName => dutyTok ER (barCell c) 0 d)
    ∗ (bigSep Finset.univ fun x : Fin 4 × Fin 4 => dutyTok ER (sCell c x.1 x.2) 0 (0, 0))
    ∗ bigSep Finset.univ fun x : Fin 4 × Fin 4 => dutyTok ER (rCell c x.1 x.2) 0 (0, 0)) := by
  unfold minted
  rw [cell_opt, bigSep_univ_prod (fun x : Fin 2 × Fin 4 × Fin 4 => bigSep Finset.univ fun d : DutyName => (dutyTok ER (cell c (some x)) 0 d : sProp 𝕄)),
    bigSep_univ_eq_bigSepL [(0 : Fin 2), 1] (by decide) (by decide)]
  simp only [bigSepL_cons_cons, bigSepL_singleton]
  exact sep_mono_right (BI.sep_mono (bigSep_mono fun x _ => bigSep_elim (Finset.mem_univ _)) (bigSep_mono fun x _ => bigSep_elim (Finset.mem_univ _)))

omit [FloatOps F] in
/-- What is of every device and transfer, each seen from the partner. -/
theorem deal_flip (Φ : Dev nD → Fin 4 → Fin 4 → sProp 𝕄) :
    (bigSep Finset.univ fun c => bigSep Finset.univ fun x : Fin 4 × Fin 4 => Φ c x.1 x.2)
      = bigSep Finset.univ fun c => bigSep Finset.univ fun x : Fin 4 × Fin 4 => Φ (peer x.1 x.2 c) x.1 (rslot x.1 x.2 c) := by
  rw [← bigSep_univ_prod (fun y : Dev nD × Fin 4 × Fin 4 => Φ y.1 y.2.1 y.2.2), bigSep_univ_equiv flip, bigSep_univ_prod]
  rfl

omit [FloatOps F] in
/-- Every device gets the tokens of the duties it pays. -/
theorem tokens_dealt : (bigSep Finset.univ fun c => minted (F := F) c) ⊢ bigSep Finset.univ fun c => tokens (F := F) c := by
  refine (bigSep_mono fun c _ => minted_split c).trans ?_
  rw [bigSep_sep', bigSep_sep', deal_flip fun c i s => dutyTok ER (barCell c) 0 (i, s), deal_flip fun c i s => dutyTok ER (rCell c i s) 0 (0, 0),
    ← bigSep_sep', ← bigSep_sep']
  refine bigSep_mono fun c _ => ?_
  unfold tokens
  refine BI.sep_mono (bigSep_subset (Finset.subset_univ _)) ?_
  rw [← bigSep_sep']
  exact bigSep_subset (Finset.subset_univ _)

/-! ## The invariants -/

/-- The semaphores of the transfers. -/
abbrev osem : Fin 2 × Fin 4 × Fin 4 → SemLoc sig := fun x => csem (some x)

omit [FloatOps F] in
/-- The counters the kernel owns and the barrier's are those of the cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CellIx => semVal (cell c k) 0 : sProp 𝕄) := by
  have hb : (unscopedSems0 c : sProp 𝕄) = semVal (barCell c) 0 := by
    unfold unscopedSems0; rw [bigSep_eq_bigSepL_of_eq [SemLoc.reg barS] (by decide) (by decide)]; rfl
  rw [cell_opt, hb]
  rfl

omit [FloatOps F] in
/-- A device's cells get their invariants. -/
theorem device_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k : CellIx => iprop(∃ κ : ℕ, cellInv ER (Rd X) κ (cell c k)))
          ∗ (places c ∗ bigSep Finset.univ fun k : CellIx => reached ER (cell c k) 0) ∗ minted c) := by
  unfold dealt
  iintro ⟨Hos, Hus, Hst, Hat, Htok⟩
  ihave Hv := (Entails.of_eq (sems_eq (F := F) c)) $$ [Hos Hus]
  · isplitl [Hus] <;> iassumption
  imod (show iprop((bigSep Finset.univ fun k : CellIx => semVal (cell c k) 0) ∗ bigSep Finset.univ fun k : CellIx => roundState ER (Rd X) (cell c k) 0)
      ⊢ (|={Set.univ}=> bigSep Finset.univ fun k => iprop(∃ κ : ℕ, cellInv ER (Rd X) κ (cell c k)) : sProp 𝕄) from by
        rw [← bigSep_sep']
        exact (bigSep_mono fun k _ => (Rounds.body_intro ER (Rd X) (cell c k)).trans inv_alloc).trans (bigSep_fupd _ _)) $$ [Hv Hst] with Hinv
  · isplitl [Hv] <;> iassumption
  imodintro
  isplitl [Hinv]; · iexact Hinv
  isplitl [Hat] <;> iassumption

/-- The invariants of all cells, and that all first rounds have begun. -/
def records (K : Dev nD × CellIx → ℕ) : sProp 𝕄 :=
  iprop((bigSep Finset.univ fun x : Dev nD × CellIx => cellInv ER (Rd X) (K x) (cell x.1 x.2))
    ∗ bigSep Finset.univ fun x : Dev nD × CellIx => reached ER (cell x.1 x.2) 0)

omit [FloatOps F] in
/-- These may be kept and used again. -/
instance records_persistent (K : Dev nD × CellIx → ℕ) : BI.Persistent (records X K) := by unfold records; infer_instance

/-- What a device has once all invariants are made. -/
def handed (c : Dev nD) : sProp 𝕄 := iprop(∃ K, records X K ∗ tokens c ∗ places c)

/-- The invariants become known to all, the tokens go to their payers. -/
theorem hand_out :
    (bigSep Finset.univ fun c : Dev nD => iprop((bigSep Finset.univ fun k : CellIx => iprop(∃ κ : ℕ, cellInv ER (Rd X) κ (cell c k)))
          ∗ (places c ∗ bigSep Finset.univ fun k : CellIx => reached ER (cell c k) 0) ∗ minted c) : sProp 𝕄)
      ⊢ bigSep Finset.univ (handed X) := by
  rw [bigSep_sep', bigSep_sep', bigSep_sep', ← bigSep_univ_prod (fun x : Dev nD × CellIx => iprop(∃ κ : ℕ, cellInv ER (Rd X) κ (cell x.1 x.2))),
    ← bigSep_univ_prod (fun x : Dev nD × CellIx => (reached ER (cell x.1 x.2) 0 : sProp 𝕄))]
  iintro ⟨HI, ⟨Hat, #HR⟩, Htok⟩
  ihave HK := (BI.bigSep_exists_pi Finset.univ (fun (x : Dev nD × CellIx) (κ : ℕ) => (cellInv ER (Rd X) κ (cell x.1 x.2) : sProp 𝕄))) $$ HI
  icases HK with ⟨%K, #HI⟩
  ihave Htk := (tokens_dealt (F := F)) $$ Htok
  iapply (bigSep_using (R := records X K) (Φ := fun c => iprop(tokens c ∗ places c)) fun c _ => by
    change BIBase.Entails (PROP := sProp (MT nD τ sig Unit (Elt F) ℕ UU ℕ)) _ _
    unfold handed
    iintro ⟨Hr, H⟩
    iexists K
    isplitl [Hr] <;> iassumption)
  isplitr
  · unfold records
    isplitl; · iexact HI
    iexact HR
  rw [bigSep_sep']
  isplitl [Htk] <;> iassumption

/-- All devices' invariants are made in one step. -/
theorem all_alloc : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (handed X) :=
  ((bigSep_mono fun c _ => device_alloc X c).trans (bigSep_fupd _ _)).trans (BI.fupd_mono (hand_out X))

/-! ## The launch's credit -/

omit [FloatOps F] in
/-- Credit for a sum is the credits of its parts. -/
theorem cred_sum {I : Type} [DecidableEq I] (S : Finset I) (f : I → CellTallies nD τ sig Unit) :
    (cred (∑ i ∈ S, f i) : sProp (MT nD τ sig Unit (Elt F) ℕ UU ℕ)) = bigSep S fun i => cred (f i) := by
  induction S using Finset.induction_on with
  | empty => rw [Finset.sum_empty, cred_zero, BI.bigSep_empty]; rfl
  | insert a S ha ih => rw [Finset.sum_insert ha, BI.bigSep_insert ha, ← ih]; exact BI.Entails.antisymm (cred_add _ _).1 (cred_add _ _).2

/-- What a device is owed lies on its own cells. -/
theorem Tall_own (c : Dev nD) (g : GSem nD τ sig) (h : Tall c g ≠ 0) : g.1 = (c.tc : Thread nD τ) := by
  by_contra hne
  have hz (k : CellIx) (n : ℕ) : (tallyAt (cell c k) () n : CellTallies nD τ sig Unit) g = 0 :=
    by
      funext
      exact tallyAt_ne_cell (fun e : g = cell c k => hne (congrArg Prod.fst e)) _ _
  apply h
  unfold Tall
  rw [Pi.add_apply, Finset.sum_apply, hz none 6, Finset.sum_eq_zero fun x _ => hz _ N, add_zero]

omit [FloatOps F] in
/-- The launch's credit is what a device is owed. -/
theorem launch_claims (c : Dev nD) : (Pipeline.launchCred Oall c : sProp 𝕄) = claims c := by
  rw [Pipeline.launchCred_of_sum Oall Tall sum_debts Tall_own]
  unfold Tall claims
  rw [← cred_sum]
  exact BI.Entails.antisymm (cred_add _ _).1 (cred_add _ _).2

end Cert.GatherProof
end
-- ==== Proof.Launch.lean ====
/-
# The run of the sixteen devices
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- The initial state: any memory, all counters zero. -/
def s₀ : MemSt nD τ sig (Elt F) := ⟨m, fun _ => 0, ρ⟩
/-- Every device's input block, as staged. -/
def xin : Inputs F := fun c => (win0_0.blk (0 : Fin 1)).view.read (Elt F) ((s₀ m ρ).mem ((c : Thread nD τ).loc main_arg0))

/-- What a device starts its body with. -/
def start (c : Dev nD) : sProp 𝕄 := iprop(∃ K, env (xin m ρ) K ∗ tokens c ∗ places c ∗ claims c)
/-- What it ends with: all counters zero. -/
def stop (c : Dev nD) : sProp 𝕄 := bigSep Finset.univ fun k : CellIx => semVal (cell c k) 0

/-- The pipeline's data: the arrays as the run finds them, the staged blocks, what surrounds the body, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt (xin m ρ) c
  Φ t := match t with
    | ⟨0, _⟩ => start m ρ c
    | ⟨_ + 1, _⟩ => stop c
  q _ := fullShare
  owed t := match t with
    | ⟨0, _⟩ => Oall c
    | ⟨_ + 1, _⟩ => 0

/-! ## The body -/

/-- The scratch arrays under the program's names. -/
def arrays : Fin 2 → Fin 4 → DmaSems sig S4
  | 0, 0 => cc0_scratch0 | 1, 0 => cc0_scratch1 | 0, 1 => cc0_scratch2 | 1, 1 => cc0_scratch3
  | 0, 2 => cc0_scratch4 | 1, 2 => cc0_scratch5 | 0, 3 => cc0_scratch6 | 1, 3 => cc0_scratch7
/-- They are the arrays of the protocol. -/
theorem arrays_eq : arrays = scr := by
  funext b i
  fin_cases b <;> fin_cases i <;> rfl

/-- A staging buffer, whole, at given contents. -/
abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

/-- What the pipeline hands the body. -/
def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body gives back. -/
def bodyPost (c : Dev nD) : sProp 𝕄 :=
  iprop(stop c ∗ (dats m ρ 0 c).owesAt () t0_0.succ ∗ stg c cc0_stg0_0 (xin m ρ c) ∗ stg c cc0_stg1_0 (outAt (xin m ρ) c))

/-- What the body ends with is what it gives back, once its cells are closed. -/
theorem give_back (K : Dev nD × CellIx → ℕ) (c : Dev nD) :
    iprop(env (xin m ρ) K ∗ bodyDone (xin m ρ) c ∗ idle c) ⊢ |={Set.univ}=> bodyPost m ρ c := by
  refine (finish (xin m ρ) K c).trans (BI.fupd_mono ?_)
  change BIBase.Entails (PROP := sProp (MT nD τ sig Unit (Elt F) ℕ UU ℕ)) _ _
  unfold bodyPost owesAny xPts stop Dat.owesAt Pipeline.owesWithin
  rw [show (dats m ρ 0 c).owed t0_0.succ = 0 from rfl]
  iintro ⟨⟨%W, HO⟩, Hx, Hb, Hz⟩
  isplitl [Hz]; · iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hb

/-- The body runs from what it is handed to what it gives back. -/
theorem body_run (c : Dev nD) : bodyPre m ρ c ⊢ wpc c (cc0_body xM (Memref.isWhole_whole _) oM (Memref.isWhole_whole _)
    (arrays 0 0) (arrays 1 0) (arrays 0 1) (arrays 1 1) (arrays 0 2) (arrays 1 2) (arrays 0 3) (arrays 1 3)) (fun _ => bodyPost m ρ c) := by
  unfold bodyPre start Dat.owesAt Pipeline.owesWithin
  rw [show (dats m ρ 0 c).owed t0_0.castSucc = Oall c from rfl]
  iintro ⟨⟨%K, #HE, Ht, Hp, Hc⟩, ⟨%W, %hW, HO⟩, ⟨%d0, %g0, %hg0, Hx⟩, ⟨%d1, %g1, %hg1, Hb⟩⟩
  have hx : g0 = xin m ρ c := by rw [hg0]; unfold Dat.before; rw [if_pos (fetch0_0 t0_0)]; rfl
  subst hx
  ihave H := (ready_intro (xin m ρ) c) $$ [Hx Hb Ht Hp Hc]
  · isplitl [Hx]; · unfold xPts; iexact Hx
    isplitl [Hb]; · iexists g1; iexact Hb
    isplitl [Ht]; · iexact Ht
    isplitl [Hp] <;> iassumption
  icases H with ⟨Hr, Hi⟩
  iapply (Idealize.SL.Sem.wp_fupd Idealize.ShloMosaic.frame (wpE (defs₀ (F := F)) 𝒱₀ (c : Thread nD τ) none) Set.univ)
  iapply (wp_wand_r Idealize.ShloMosaic.frame (wpE (defs₀ (F := F)) 𝒱₀ (c : Thread nD τ) none) Set.univ)
  isplitl [HO Hr]
  · iapply (body (xin m ρ) K c arrays_eq)
    isplitr; · iexact HE
    isplitl [HO]
    · unfold owesAny
      iexists W
      iexact HO
    iexact Hr
  iintro %_ H
  iapply (give_back m ρ K c)
  isplitr; · iexact HE
  isplitl [H] <;> iassumption

/-- The body meets the pipeline's demand. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

/-- The kernel's own counters are scoped, and none is a staging counter. -/
theorem own_sems : Pipeline.OwnSemFacts cfg0.spec osem := by decide +kernel

/-- The windows are held whole. -/
theorem share_eq (c : Dev nD) (w : Fin cfg0.W) : (dats m ρ 0 c).share w = fullShare := by unfold Dat.share; split <;> rfl

/-- The ghost state the run begins with. -/
def u₀ : UU := (initOf (Pipeline.cells cfgs cellOf_inj) (Pipeline.launchToks cfgs cellOf_inj), initOf allCells allToks)

/-- What a device is handed, with its credit and the levels, is what its body starts with. -/
theorem start_intro (c : Dev nD) :
    iprop(Pipeline.unscopedRestP Pipeline.Prefetch.none cfg0.spec c (fun b => m ((c : Thread nD τ).loc b)) ∗ levAts L lv
        ∗ Pipeline.launchCred Oall c ∗ prngReg c (ρ c) ∗ handed (xin m ρ) c)
      ⊢ |={Set.univ}=> iprop(start m ρ c ∗ emp) := by
  unfold handed records
  iintro ⟨-, Hlev, Hcr, -, ⟨%K, ⟨HI, HR⟩, Ht, Hp⟩⟩
  ihave Hc := (Entails.of_eq (launch_claims (F := F) c)) $$ Hcr
  imodintro
  unfold start env
  isplitl
  · iexists K
    isplitl [HI HR Hlev]
    · isplitl [HI]; · iexact HI
      isplitl [HR] <;> iassumption
    isplitl [Ht]; · iexact Ht
    isplitl [Hp] <;> iassumption
  · iempintro

/-- The region is entered with what the body starts with. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- The region is left with all counters zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = stop c from rfl, scopedRest0_eq]
  unfold stop
  rw [← sems_eq]
  iintro ⟨Hu, Ho⟩
  isplitl [Hu]; · iexact Hu
  isplitl [Ho]; · iexact Ho
  iempintro

/-- The pipeline may wait for its staging copies. -/
theorem waits (c : Dev nD) : (levAts L lv : sProp 𝕄) ⊢ Pipeline.cellsWaits cfgs (dats m ρ) () 0 c :=
  Pipeline.cellsWaits_intro cfgs (dats m ρ) () 0 c fun w s t =>
    mayWait_above c _ (n := 0)
      (by
        rcases t with ⟨_ | _, ht⟩
        · exact above_all c
        · exact Above.zero 0)
      (by
        show ((dec (.dma (((cfgs 0).win w).sem s))).map lvIx).getD 0 ≤ 0
        clear t c
        fin_cases w <;> fin_cases s <;> decide)

/-! ## The run -/

/-- An array's final contents, by the pipeline's account. -/
def finalA (c : Dev nD) (w : Fin cfg0.W) : Buf (Elt F) ((cfg0.win w).arr.view.loc (c : Thread nD τ)) := (dats m ρ 0 c).arrAt w cfg0.N

/-- Every array ends at its final contents. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters the run of the sixteen devices ends, with the result arrays at the gathered contents, the
    inputs as they were and all counters zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := Oall) (howed₀ := fun _ => rfl) (howedN := fun _ => rfl)
    (L := L) (lv := lv) (hL := L_of_ne) (hwaits := waits m ρ)
    (G := dealt (xin m ρ)) (G' := handed (xin m ρ)) (u₀ := u₀)
    (hu₀ := by
      unfold u₀
      iintro Hu
      ihave H := (ownU_pair _ _) $$ Hu
      icases H with ⟨HP, HX⟩
      imod (fund_all (xin m ρ)) $$ HX with HG
      imodintro
      isplitl [HP] <;> iassumption)
    (hglob := all_alloc (xin m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherProof
end
-- ==== Proof.Values.lean ====
/-
# What the run computes, and the claims
-/
module

public import proofs.«01_k».proof.Defs
public import proofs.«01_k».proof.Proof.Launch
public import proofs.«01_k».proof.Proof.Gen.Kernel
public import proofs.«01_k».proof.Proof.Gen.ReferenceIdeal
public import Idealize.ShloMosaic.Lib.Pipeline.ValueKit.Geometry
public import Idealize.ShloMosaic.Lib.StableHlo.Run
public import Idealize.ShloMosaic.Lib.Quiescent

@[expose] public section

set_option maxRecDepth 8000

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

/-- The argument array is never written. -/
theorem finalA_in (c : Dev nD) : finalA m ρ c (0 : Fin 2) = m ((c : Thread nD τ).loc main_arg0) :=
  (dats m ρ 0 c).arrAt_in (0 : Fin 2) rfl _

/-- The one block staged of the argument array is the array. -/
theorem xin_apply (c : Dev nD) (j : S1024x512.Idx) : xin m ρ c j = m ((c : Thread nD τ).loc main_arg0) j := by
  have he : (win0_0.blk (0 : Fin 1)).view.emb j = j :=
    funext fun a => Fin.ext (Pipeline.Window.rect_emb_val_of_index_zero win0_0 (0 : Fin 1) a (by revert a; decide +kernel) j)
  show m ((c : Thread nD τ).loc main_arg0) ((win0_0.blk (0 : Fin 1)).view.emb j) = _
  rw [he]

/-- The result array holds what the body left in its staging buffer. -/
theorem finalA_out (c : Dev nD) : finalA m ρ c (1 : Fin 2) = outAt (xin m ρ) c := by
  refine (dats m ρ 0 c).arrAt_eq_of_after_last (1 : Fin 2) t0_0 (by decide +kernel) _ fun j => ?_
  rfl

/-! ## The gathered array is the whole array -/

/-- A row of the result comes from a device in the slot of the row's chunk. -/
theorem zOf_srcDev (c : Dev nD) (i : S4096x512.Idx) : (zOf (srcDev c i)).val = (i 0).val / 1024 := by
  unfold srcDev
  split
  · next h => exact h.symm
  · rw [zOf_devAt]
    exact Nat.mod_eq_of_lt (by have h : (i 0).val < 4096 := (i 0).isLt; omega)

/-- Device `c` holds the block of the whole array its slot names. -/
theorem block_row : ∀ c : Dev nD, ((Layout.meshBlock [2, 2, 4] ![[2], []] c) (0 : Fin 2)).val = (zOf c).val := by
  decide +kernel

/-- No device's block is displaced along the columns. -/
theorem block_col : ∀ c : Dev nD, ((Layout.meshBlock [2, 2, 4] ![[2], []] c) (1 : Fin 2)).val = 0 := by
  decide +kernel

/-- When the devices start with the blocks of one array `v`, every device's result is `v`. -/
theorem gathered (v : S4096x512.Idx → Elt F .bf16)
    (hm : ∀ c : Dev nD, m ((c : Thread nD τ).loc main_arg0)
      = Layout.blockN ⟨2, ![1024, 512]⟩ ⟨2, ![4096, 512]⟩ (Layout.meshBlock [2, 2, 4] ![[2], []] c) v)
    (c : Dev nD) : outAt (xin m ρ) c = v := by
  funext i
  unfold outAt
  rw [xin_apply, hm]
  refine congrArg v (funext fun a => Fin.ext ?_)
  match a with
  | ⟨0, _⟩ =>
    show ((Layout.meshBlock [2, 2, 4] ![[2], []] (srcDev c i)) (0 : Fin 2)).val * 1024 + (i 0).val % 1024 = (i 0).val
    rw [block_row, zOf_srcDev]
    omega
  | ⟨1, _⟩ =>
    show ((Layout.meshBlock [2, 2, 4] ![[2], []] (srcDev c i)) (1 : Fin 2)).val * 512 + (i 1).val = (i 1).val
    rw [block_col]
    omega

/-! ## The claims -/

/-- The argument arrays end as they began and every counter is back at zero, at any format semantics. -/
theorem frame_any : θ_run defs (onTc (τ := τ) (main (F := F))) (s₀ m ρ) (fun r =>
    (∀ c : Dev nD, r.2.mem ((c : Thread nD τ).loc main_arg0) = m ((c : Thread nD τ).loc main_arg0))
      ∧ r.2.sem = fun _ => 0) :=
  (θ_run defs _ _).mono (fun _ h => ⟨fun c => (h.1 c (0 : Fin 2)).trans (finalA_in m ρ c), h.2⟩) (run_main m ρ)

/-- The kernel as printed and the idealized kernel have the same body table. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- So everything they call is the same. -/
theorem defs_eq : Cert.Kernel.defs (F := F) = Cert.KernelIdeal.defs (F := F) := by
  unfold Cert.Kernel.defs Cert.KernelIdeal.defs
  exact congrArg (Pipeline.defs Cert.Kernel.pcfgs) bodies_eq

/-- The kernel as printed, on bit patterns. -/
theorem frame_kernel : Cert.quiescent_Kernel := fun m ρ _ =>
  (congrArg (fun d => θ_run d (onTc (τ := Cert.Kernel.τ) (Cert.Kernel.main (F := Bits))) ⟨m, fun _ => 0, ρ⟩ fun r =>
    (∀ c : Dev Cert.Kernel.nD, r.2.mem ((c : Thread Cert.Kernel.nD Cert.Kernel.τ).loc Cert.Kernel.main_arg0)
        = m ((c : Thread Cert.Kernel.nD Cert.Kernel.τ).loc Cert.Kernel.main_arg0))
      ∧ r.2.sem = fun _ => 0) defs_eq).mpr (frame_any (F := Bits) m ρ)

/-- The kernel on extended reals. -/
theorem frame_kernelIdeal : Cert.quiescent_KernelIdeal := fun m ρ _ => frame_any (F := Ideal) m ρ

/-- The reference performs no operation, so memory stays as it is. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal)))
      ⟨m', fun _ => 0, ρ'⟩ (fun r => ∀ (c : Dev Cert.ReferenceIdeal.nD),
        r.2.mem ((c : Thread Cert.ReferenceIdeal.nD Cert.ReferenceIdeal.τ).loc Cert.ReferenceIdeal.main_arg0)
          = m' ((c : Thread Cert.ReferenceIdeal.nD Cert.ReferenceIdeal.τ).loc Cert.ReferenceIdeal.main_arg0)) :=
  (θ_run Cert.ReferenceIdeal.defs _ _).mono (fun _ h c => h c Cert.ReferenceIdeal.main_arg0)
    (StableHlo.run_seq (by decide) (by decide) Cert.ReferenceIdeal.defs Cert.ReferenceIdeal.main (fun _ => [])
      (fun _ => rfl) (fun _ => trivial) m' ρ')

/-- The reference: it has no counter that could end elsewhere than at zero. -/
theorem frame_reference : Cert.quiescent_ReferenceIdeal := fun m' ρ' _ =>
  (θ_run Cert.ReferenceIdeal.defs _ _).mono (fun r h => ⟨h, sem_eq_zero_of_no_sems (by decide) r.2⟩) (reference_run m' ρ')

/-- Kernel and reference compute one array: the whole of which the devices started with the blocks. -/
theorem algebraic : Cert.algebraic_KernelIdeal_ReferenceIdeal := by
  intro m ρ m' ρ' _ hm
  refine ⟨m' ((0 : Dev Cert.ReferenceIdeal.nD).tc.loc Cert.ReferenceIdeal.main_arg0), ?_, ?_⟩
  · exact (θ_run defs _ _).mono (fun _ h c =>
      ⟨((h.1 c (1 : Fin 2)).trans (finalA_out m ρ c)).trans (gathered m ρ _ hm c),
        (h.1 c (0 : Fin 2)).trans (finalA_in m ρ c)⟩) (run_main (F := Ideal) m ρ)
  · exact (θ_run Cert.ReferenceIdeal.defs _ _).mono (fun _ h => ⟨h 0, h 0⟩) (reference_run m' ρ')

end Cert.GatherProof
end
-- ==== Proof.lean ====
/-
# The certificate

The five claims of Defs.lean, each proved in Proof/Values.lean from the one run of Proof/Launch.lean. The order of the
modules: Mesh (devices and printed numbers), Blocks (the staging buffers as sixteen blocks), Schedule (who waits for
whom, and what each landing hands over), Debt (what is owed, and in which order it is waited for), Steps, Start,
Sections, Handshake, Take, Middle, Pairs, Late (the statements of the body), Body (the body), Sorted (what a device holds at the start, in the order of use),
Deal (what the devices start with), Launch (the run), Values (what it computes).
-/
module

public import proofs.«01_k».proof.Defs
public import proofs.«01_k».proof.Proof.Values

@[expose] public section

noncomputable section

namespace Cert.Proof

open Idealize.ShloMosaic Idealize.SL.Sem

/-- The certificate's claim: three frames, the idealization's, and that the kernel computes the reference. -/
theorem claim : Cert.Claim :=
  ⟨Cert.Kernel.Gen.facts, Cert.KernelIdeal.Gen.facts, Cert.ReferenceIdeal.Gen.facts,
    Cert.GatherProof.frame_kernel, Cert.GatherProof.frame_kernelIdeal, Cert.GatherProof.frame_reference,
    trivial, Cert.GatherProof.algebraic⟩

end Cert.Proof

end
